-- ==== Defs.lean ====
def Pre_Kernel [hPre_sorted_rows : Cert.Pre_sorted_rows.Facts] (m : (ℓ : Loc Cert.Kernel.nD Cert.Kernel.τ Cert.Kernel.sig) → Buf (Elt Bits) ℓ) : Prop :=
  ∀ c : Dev Cert.Kernel.nD,
    (Cert.Pre_sorted_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_sorted_rows : Cert.Pre_sorted_rows.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_sorted_finite_rows [hPre_sorted_finite_rows : Cert.Pre_sorted_finite_rows.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_finite_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_finite_rows [hPre_sorted_finite_rows : Cert.Pre_sorted_finite_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_finite_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_sorted_rows : Cert.Pre_sorted_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_sorted_rows : Cert.Pre_sorted_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_sorted_finite_rows [hKernelIdeal : Cert.KernelIdeal.Facts] [hPre_sorted_finite_rows : Cert.Pre_sorted_finite_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_finite_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sorted_finite_rows [hReferenceIdeal : Cert.ReferenceIdeal.Facts] [hPre_sorted_finite_rows : Cert.Pre_sorted_finite_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_finite_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_sorted_finite_rows [hKernelIdeal : Cert.KernelIdeal.Facts] [hReferenceIdeal : Cert.ReferenceIdeal.Facts] [hPre_sorted_finite_rows : Cert.Pre_sorted_finite_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_finite_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sorted_rows : Cert.Pre_sorted_rows.Facts) (hPre_sorted_finite_rows : Cert.Pre_sorted_finite_rows.Facts),
    quiescent_Kernel (hKernel := hKernel) (hPre_sorted_rows := hPre_sorted_rows)
    ∧ quiescent_KernelIdeal (hKernelIdeal := hKernelIdeal) (hPre_sorted_rows := hPre_sorted_rows)
    ∧ quiescent_KernelIdeal_pre_sorted_finite_rows (hKernelIdeal := hKernelIdeal) (hPre_sorted_finite_rows := hPre_sorted_finite_rows)
    ∧ quiescent_ReferenceIdeal (hReferenceIdeal := hReferenceIdeal)
    ∧ quiescent_ReferenceIdeal_pre_sorted_finite_rows (hReferenceIdeal := hReferenceIdeal) (hPre_sorted_finite_rows := hPre_sorted_finite_rows)
    ∧ preserves_Kernel_KernelIdeal
    ∧ algebraic_KernelIdeal_ReferenceIdeal_pre_sorted_finite_rows (hKernelIdeal := hKernelIdeal) (hReferenceIdeal := hReferenceIdeal) (hPre_sorted_finite_rows := hPre_sorted_finite_rows)
-- ==== Pre_sorted_finite_rows.lean ====
abbrev S320000x128 : Shape := ⟨2, ![320000, 128]⟩
abbrev S320000 : Shape := ⟨1, ![320000]⟩
abbrev S128 : Shape := ⟨1, ![128]⟩
abbrev S319999 : Shape := ⟨1, ![319999]⟩
abbrev S_ : Shape := ⟨0, ![]⟩
abbrev S319999x128 : Shape := ⟨2, ![319999, 128]⟩
abbrev S319999x1 : Shape := ⟨2, ![319999, 1]⟩
abbrev S1x128 : Shape := ⟨2, ![1, 128]⟩

class Facts : Prop where
  slices_S320000_S319999_0 : S320000.Slices ![0] S319999
  slices_S320000_S319999_1 : S320000.Slices ![1] S319999
  bcast_S_S319999 : S_.BroadcastsInDim S319999 (![] : Fin 0 → Fin S319999.rank)
  slices_S320000x128_S319999x128_0_0 : S320000x128.Slices ![0, 0] S319999x128
  bcast_S_S319999x128 : S_.BroadcastsInDim S319999x128 (![] : Fin 0 → Fin S319999x128.rank)
  slices_S320000x128_S319999x128_1_0 : S320000x128.Slices ![1, 0] S319999x128
  bcast_S319999_S319999x1_0 : S319999.BroadcastsInDim S319999x1 (![0] : Fin 1 → Fin S319999x1.rank)
  bcast_S319999x1_S319999x128_0_1 : S319999x1.BroadcastsInDim S319999x128 (![0, 1] : Fin 2 → Fin S319999x128.rank)
  bcast_S_S128 : S_.BroadcastsInDim S128 (![] : Fin 0 → Fin S128.rank)
  bcast_S128_S1x128_1 : S128.BroadcastsInDim S1x128 (![1] : Fin 1 → Fin S1x128.rank)
  bcast_S1x128_S319999x128_0_1 : S1x128.BroadcastsInDim S319999x128 (![0, 1] : Fin 2 → Fin S319999x128.rank)

variable [Facts]

def fn_part1 {F : FTy → Type} [FloatOps F] (main_arg2 : FVec F S128 .f32) (main_v17 : IVec S319999x128 1) (main_v19 : IVec S319999x128 1) : IVec S319999x128 1 :=
  let main_v20 : IVec S319999x128 1 := andi main_v19 main_v17
  let main_v21 : FVec F S128 .f32 := Host.absf main_arg2
  let main_cst_2 : FVec F S_ .f32 := constant S_ .f32 0x7F800000#32
  let main_v22 : FVec F S128 .f32 := broadcastInDim S128 ![] bcast_S_S128 main_cst_2
  let main_v23 : IVec S128 1 := cmpf .olt main_v21 main_v22
  let main_v24 : IVec S1x128 1 := broadcastInDim S1x128 ![1] bcast_S128_S1x128_1 main_v23
  let main_v25 : IVec S319999x128 1 := broadcastInDim S319999x128 ![0, 1] bcast_S1x128_S319999x128_0_1 main_v24
  let main_v26 : IVec S319999x128 1 := andi main_v20 main_v25
  main_v26

def fn {F : FTy → Type} [FloatOps F] (main_arg0 : FVec F S320000x128 .f32) (main_arg1 : IVec S320000 32) (main_arg2 : FVec F S128 .f32) (main_arg3 : FVec F S128 .f32) : IVec S319999x128 1 :=
  let main_v0 : IVec S319999 32 := (extractStridedSlice S319999 ![0] · slices_S320000_S319999_0) main_arg1
  let main_v1 : IVec S319999 32 := (extractStridedSlice S319999 ![1] · slices_S320000_S319999_1) main_arg1
  let main_c : IVec S_ 32 := constantI S_ 32 0#32
  let main_v2 : IVec S319999 32 := broadcastInDim S319999 ![] bcast_S_S319999 main_c
  let main_v3 : IVec S319999 1 := cmpi .sge main_v0 main_v2
  let main_v4 : IVec S319999 1 := cmpi .sle main_v0 main_v1
  let main_v5 : IVec S319999 1 := andi main_v3 main_v4
  let main_c_0 : IVec S_ 32 := constantI S_ 32 10000#32
  let main_v6 : IVec S319999 32 := broadcastInDim S319999 ![] bcast_S_S319999 main_c_0
  let main_v7 : IVec S319999 1 := cmpi .slt main_v1 main_v6
  let main_v8 : IVec S319999 1 := andi main_v5 main_v7
  let main_v9 : FVec F S319999x128 .f32 := (extractStridedSlice S319999x128 ![0, 0] · slices_S320000x128_S319999x128_0_0) main_arg0
  let main_v10 : FVec F S319999x128 .f32 := Host.absf main_v9
  let main_cst : FVec F S_ .f32 := constant S_ .f32 0x7F800000#32
  let main_v11 : FVec F S319999x128 .f32 := broadcastInDim S319999x128 ![] bcast_S_S319999x128 main_cst
  let main_v12 : IVec S319999x128 1 := cmpf .olt main_v10 main_v11
  let main_v13 : FVec F S319999x128 .f32 := (extractStridedSlice S319999x128 ![1, 0] · slices_S320000x128_S319999x128_1_0) main_arg0
  let main_v14 : FVec F S319999x128 .f32 := Host.absf main_v13
  let main_cst_1 : FVec F S_ .f32 := constant S_ .f32 0x7F800000#32
  let main_v15 : FVec F S319999x128 .f32 := broadcastInDim S319999x128 ![] bcast_S_S319999x128 main_cst_1
  let main_v16 : IVec S319999x128 1 := cmpf .olt main_v14 main_v15
  let main_v17 : IVec S319999x128 1 := andi main_v12 main_v16
  let main_v18 : IVec S319999x1 1 := broadcastInDim S319999x1 ![0] bcast_S319999_S319999x1_0 main_v8
  let main_v19 : IVec S319999x128 1 := broadcastInDim S319999x128 ![0, 1] bcast_S319999x1_S319999x128_0_1 main_v18
  fn_part1 (F := F) main_arg2 main_v17 main_v19
-- ==== Pre_sorted_rows.lean ====
abbrev S320000x128 : Shape := ⟨2, ![320000, 128]⟩
abbrev S320000 : Shape := ⟨1, ![320000]⟩
abbrev S128 : Shape := ⟨1, ![128]⟩
abbrev S319999 : Shape := ⟨1, ![319999]⟩
abbrev S_ : Shape := ⟨0, ![]⟩

class Facts : Prop where
  slices_S320000_S319999_0 : S320000.Slices ![0] S319999
  slices_S320000_S319999_1 : S320000.Slices ![1] S319999
  bcast_S_S319999 : S_.BroadcastsInDim S319999 (![] : Fin 0 → Fin S319999.rank)

variable [Facts]

def fn {F : FTy → Type} [FloatOps F] (main_arg0 : FVec F S320000x128 .f32) (main_arg1 : IVec S320000 32) (main_arg2 : FVec F S128 .f32) (main_arg3 : FVec F S128 .f32) : IVec S319999 1 :=
  let main_v0 : IVec S319999 32 := (extractStridedSlice S319999 ![0] · slices_S320000_S319999_0) main_arg1
  let main_v1 : IVec S319999 32 := (extractStridedSlice S319999 ![1] · slices_S320000_S319999_1) main_arg1
  let main_c : IVec S_ 32 := constantI S_ 32 0#32
  let main_v2 : IVec S319999 32 := broadcastInDim S319999 ![] bcast_S_S319999 main_c
  let main_v3 : IVec S319999 1 := cmpi .sge main_v0 main_v2
  let main_v4 : IVec S319999 1 := cmpi .sle main_v0 main_v1
  let main_v5 : IVec S319999 1 := andi main_v3 main_v4
  let main_c_0 : IVec S_ 32 := constantI S_ 32 10000#32
  let main_v6 : IVec S319999 32 := broadcastInDim S319999 ![] bcast_S_S319999 main_c_0
  let main_v7 : IVec S319999 1 := cmpi .slt main_v1 main_v6
  let main_v8 : IVec S319999 1 := andi main_v5 main_v7
  main_v8
-- ==== Kernel.lean ====
abbrev S320000x128 : Shape := ⟨2, ![320000, 128]⟩
abbrev S320000 : Shape := ⟨1, ![320000]⟩
abbrev S128 : Shape := ⟨1, ![128]⟩
abbrev S_ : Shape := ⟨0, ![]⟩
abbrev S1 : Shape := ⟨1, ![1]⟩
abbrev S319999 : Shape := ⟨1, ![319999]⟩
abbrev S400 : Shape := ⟨1, ![400]⟩
abbrev S400x800x1 : Shape := ⟨3, ![400, 800, 1]⟩
abbrev S1x128 : Shape := ⟨2, ![1, 128]⟩
abbrev S10808x384 : Shape := ⟨2, ![10808, 384]⟩
abbrev S1x800x1 : Shape := ⟨3, ![1, 800, 1]⟩
abbrev S800x128 : Shape := ⟨2, ![800, 128]⟩
abbrev S800x1 : Shape := ⟨2, ![800, 1]⟩
abbrev S800x64 : Shape := ⟨2, ![800, 64]⟩
abbrev S800x256 : Shape := ⟨2, ![800, 256]⟩
abbrev S64x256 : Shape := ⟨2, ![64, 256]⟩
abbrev S64x128 : Shape := ⟨2, ![64, 128]⟩
abbrev S64x384 : Shape := ⟨2, ![64, 384]⟩
abbrev S800x808 : Shape := ⟨2, ![800, 808]⟩
abbrev S808x256 : Shape := ⟨2, ![808, 256]⟩
abbrev S808x128 : Shape := ⟨2, ![808, 128]⟩
abbrev S808x384 : Shape := ⟨2, ![808, 384]⟩
abbrev S10808x256 : Shape := ⟨2, ![10808, 256]⟩
abbrev S10808x128 : Shape := ⟨2, ![10808, 128]⟩
abbrev S10808x1 : Shape := ⟨2, ![10808, 1]⟩

abbrev nBuf : Space → Nat
  | .hbm => 47
  | .vmem => 16
  | .smem => 2
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128, .f32⟩
  | .hbm, ⟨3, _⟩ => ⟨S128, .f32⟩
  | .hbm, ⟨4, _⟩ => ⟨S_, .i32⟩
  | .hbm, ⟨5, _⟩ => ⟨S1, .i32⟩
  | .hbm, ⟨6, _⟩ => ⟨S319999, .i32⟩
  | .hbm, ⟨7, _⟩ => ⟨S319999, .i32⟩
  | .hbm, ⟨8, _⟩ => ⟨S319999, .i1⟩
  | .hbm, ⟨9, _⟩ => ⟨S319999, .i32⟩
  | .hbm, ⟨10, _⟩ => ⟨S320000, .i32⟩
  | .hbm, ⟨11, _⟩ => ⟨S_, .i32⟩
  | .hbm, ⟨12, _⟩ => ⟨S_, .i32⟩
  | .hbm, ⟨13, _⟩ => ⟨S320000, .i32⟩
  | .hbm, ⟨14, _⟩ => ⟨S400, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S400, .i32⟩
  | .hbm, ⟨22, _⟩ => ⟨S400, .i32⟩
  | .hbm, ⟨23, _⟩ => ⟨S_, .i32⟩
  | .hbm, ⟨24, _⟩ => ⟨S400, .i32⟩
  | .hbm, ⟨25, _⟩ => ⟨S400, .i1⟩
  | .hbm, ⟨26, _⟩ => ⟨S_, .i32⟩
  | .hbm, ⟨27, _⟩ => ⟨S400, .i32⟩
  | .hbm, ⟨28, _⟩ => ⟨S400, .i1⟩
  | .hbm, ⟨29, _⟩ => ⟨S_, .i32⟩
  | .hbm, ⟨30, _⟩ => ⟨S_, .i1⟩
  | .hbm, ⟨31, _⟩ => ⟨S400, .i1⟩
  | .hbm, ⟨32, _⟩ => ⟨S400, .i1⟩
  | .hbm, ⟨33, _⟩ => ⟨S400, .i1⟩
  | .hbm, ⟨34, _⟩ => ⟨S400, .i32⟩
  | .hbm, ⟨35, _⟩ => ⟨S400, .i32⟩
  | .hbm, ⟨36, _⟩ => ⟨S400, .i32⟩
  | .hbm, ⟨37, _⟩ => ⟨S400, .i32⟩
  | .hbm, ⟨38, _⟩ => ⟨S400, .i32⟩
  | .hbm, ⟨39, _⟩ => ⟨S_, .i32⟩
  | .hbm, ⟨40, _⟩ => ⟨S400, .i32⟩
  | .hbm, ⟨41, _⟩ => ⟨S400x800x1, .i32⟩
  | .hbm, ⟨42, _⟩ => ⟨S1x128, .f32⟩
  | .hbm, ⟨43, _⟩ => ⟨S1x128, .f32⟩
  | .hbm, ⟨44, _⟩ => ⟨S10808x384, .f32⟩
  | .hbm, ⟨45, _⟩ => ⟨S10808x256, .f32⟩
  | .hbm, ⟨46, _⟩ => ⟨S320000x128, .f32⟩
  | .local _ .vmem, ⟨0, _⟩ => ⟨S1x800x1, .i32⟩
  | .local _ .vmem, ⟨1, _⟩ => ⟨S1x800x1, .i32⟩
  | .local _ .vmem, ⟨2, _⟩ => ⟨S800x128, .f32⟩
  | .local _ .vmem, ⟨3, _⟩ => ⟨S800x128, .f32⟩
  | .local _ .vmem, ⟨4, _⟩ => ⟨S10808x384, .f32⟩
  | .local _ .vmem, ⟨5, _⟩ => ⟨S10808x384, .f32⟩
  | .local _ .vmem, ⟨6, _⟩ => ⟨S1x128, .f32⟩
  | .local _ .vmem, ⟨7, _⟩ => ⟨S1x128, .f32⟩
  | .local _ .vmem, ⟨8, _⟩ => ⟨S10808x256, .f32⟩
  | .local _ .vmem, ⟨9, _⟩ => ⟨S1x800x1, .i32⟩
  | .local _ .vmem, ⟨10, _⟩ => ⟨S1x800x1, .i32⟩
  | .local _ .vmem, ⟨11, _⟩ => ⟨S800x128, .f32⟩
  | .local _ .vmem, ⟨12, _⟩ => ⟨S800x128, .f32⟩
  | .local _ .vmem, ⟨13, _⟩ => ⟨S10808x256, .f32⟩
  | .local _ .vmem, ⟨14, _⟩ => ⟨S800x128, .f32⟩
  | .local _ .vmem, ⟨15, _⟩ => ⟨S800x128, .f32⟩
  | .local _ .smem, ⟨0, _⟩ => ⟨S400, .i32⟩
  | .local _ .smem, ⟨1, _⟩ => ⟨S400, .i32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_call0_c : Ref sig .tc := ⟨.hbm, 11, rfl⟩
abbrev main_call0_call0_v0 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_call1_v0 : Ref sig .tc := ⟨.hbm, 16, rfl⟩
abbrev main_call1_c : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_c_1 : Ref sig .tc := ⟨.hbm, 23, rfl⟩
abbrev main_call1_v5 : Ref sig .tc := ⟨.hbm, 24, rfl⟩
abbrev main_call1_v6 : Ref sig .tc := ⟨.hbm, 25, rfl⟩
abbrev main_call1_c_2 : Ref sig .tc := ⟨.hbm, 26, rfl⟩
abbrev main_call1_v7 : Ref sig .tc := ⟨.hbm, 27, rfl⟩
abbrev main_call1_v8 : Ref sig .tc := ⟨.hbm, 28, rfl⟩
abbrev main_call1_c_3 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_v12 : Ref sig .tc := ⟨.hbm, 33, rfl⟩
abbrev main_call1_v13 : Ref sig .tc := ⟨.hbm, 34, rfl⟩
abbrev main_call1_v14 : Ref sig .tc := ⟨.hbm, 35, rfl⟩
abbrev main_v8 : Ref sig .tc := ⟨.hbm, 36, rfl⟩
abbrev main_v10 : Ref sig .tc := ⟨.hbm, 37, rfl⟩
abbrev main_v11 : Ref sig .tc := ⟨.hbm, 38, rfl⟩
abbrev main_c_1 : Ref sig .tc := ⟨.hbm, 39, rfl⟩
abbrev main_v12 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v9 : Ref sig .tc := ⟨.smem, 0, rfl⟩
abbrev main_v13 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6
abbrev cc1_sem2_0 : DmaSem sig := 7
abbrev cc1_sem3_0 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![401], ![false]⟩

abbrev pre0 : Pipeline.Prefetch sig := ⟨2, ![main_v9.idx, main_v13.idx], fun | 0 => main_v9.names | 1 => main_v13.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond2 (i : grid0.Coords) : BitVec 1 :=
  let arg0 : BitVec 32 := BitVec.ofNat 32 (i 0).val
  let c400_i32 : BitVec 32 := 400#32
  let v3 : BitVec 1 := Scalar.cmpi .slt arg0 c400_i32
  let v4 : BitVec 32 := Scalar.extui v3
  let c0_i32_1 : BitVec 32 := 0#32
  let v5 : BitVec 1 := Scalar.cmpi .ne v4 c0_i32_1
  v5

def k0_off1 (i : grid0.Coords) : Fin 1 → Nat :=
  let arg0 : BitVec 32 := BitVec.ofNat 32 (i 0).val
  let v8 : Index := Scalar.indexCast arg0
  ![v8.toNat]
def k0_off2 (i : grid0.Coords) : Fin 1 → Nat :=
  let arg0 : BitVec 32 := BitVec.ofNat 32 (i 0).val
  let v23 : Index := Scalar.indexCast arg0
  ![v23.toNat]
def k0_mult1 (v24 : BitVec 32) : BitVec 32 :=
  v24
def k0_cond3 (v14 : BitVec 32) : BitVec 1 :=
  let c64_i32 : BitVec 32 := 64#32
  let v15 : BitVec 1 := Scalar.cmpi .sle v14 c64_i32
  let v16 : BitVec 32 := Scalar.extui v15
  let c0_i32_6 : BitVec 32 := 0#32
  let v17 : BitVec 1 := Scalar.cmpi .ne v16 c0_i32_6
  v17

def k0_off3 (v24 : BitVec 32) : Fin 2 → Nat :=
  let v35 : BitVec 32 := v24
  let v36 : Index := Scalar.indexCast v35
  let c0_11 : Index := 0#32
  ![v36.toNat, 0]

def k0_chk1 (i : grid0.Coords) (v14 : BitVec 32) (v24 : BitVec 32) : Prop :=
  (∀ (k0_h2 : k0_cond2 i = 1#1), ∀ (k0_h3 : k0_cond3 v14 = 1#1), 8 ∣ (k0_mult1 v24).toNat) ∧
  (∀ (k0_h2 : k0_cond2 i = 1#1), ∀ (k0_h3 : k0_cond3 v14 = 1#1), ∀ a, (k0_off3 v24) a + S64x384.size a ≤ S10808x384.size a)
theorem k0_mult1_dvd : ∀ (i : grid0.Coords) (v14 : BitVec 32) (v24 : BitVec 32) (k0_hw1 : k0_chk1 i v14 v24), ∀ (k0_h2 : k0_cond2 i = 1#1), ∀ (k0_h3 : k0_cond3 v14 = 1#1), 8 ∣ (k0_mult1 v24).toNat := fun i v14 v24 k0_hw1 k0_h2 k0_h3 => k0_hw1.1 k0_h2 k0_h3
theorem k0_off3_inb : ∀ (i : grid0.Coords) (v14 : BitVec 32) (v24 : BitVec 32) (k0_hw1 : k0_chk1 i v14 v24), ∀ (k0_h2 : k0_cond2 i = 1#1), ∀ (k0_h3 : k0_cond3 v14 = 1#1), ∀ a, (k0_off3 v24) a + S64x384.size a ≤ S10808x384.size a := fun i v14 v24 k0_hw1 k0_h2 k0_h3 => k0_hw1.2 k0_h2 k0_h3

def k0_off4 (i : grid0.Coords) : Fin 1 → Nat :=
  let arg0 : BitVec 32 := BitVec.ofNat 32 (i 0).val
  let v18 : Index := Scalar.indexCast arg0
  ![v18.toNat]
def k0_off5 (i : grid0.Coords) : Fin 1 → Nat :=
  let arg0 : BitVec 32 := BitVec.ofNat 32 (i 0).val
  let v23 : Index := Scalar.indexCast arg0
  ![v23.toNat]
def k0_mult2 (v24 : BitVec 32) : BitVec 32 :=
  v24
def k0_cond4 (v19 : BitVec 32) : BitVec 1 :=
  let c64_i32_7 : BitVec 32 := 64#32
  let v20 : BitVec 1 := Scalar.cmpi .sgt v19 c64_i32_7
  let v21 : BitVec 32 := Scalar.extui v20
  let c0_i32_8 : BitVec 32 := 0#32
  let v22 : BitVec 1 := Scalar.cmpi .ne v21 c0_i32_8
  v22

def k0_off6 (v24 : BitVec 32) : Fin 2 → Nat :=
  let v35 : BitVec 32 := v24
  let v36 : Index := Scalar.indexCast v35
  let c0_11 : Index := 0#32
  ![v36.toNat, 0]

def k0_chk2 (i : grid0.Coords) (v19 : BitVec 32) (v24 : BitVec 32) : Prop :=
  (∀ (k0_h2 : k0_cond2 i = 1#1), ∀ (k0_h4 : k0_cond4 v19 = 1#1), 8 ∣ (k0_mult2 v24).toNat) ∧
  (∀ (k0_h2 : k0_cond2 i = 1#1), ∀ (k0_h4 : k0_cond4 v19 = 1#1), ∀ a, (k0_off6 v24) a + S808x384.size a ≤ S10808x384.size a)
theorem k0_mult2_dvd : ∀ (i : grid0.Coords) (v19 : BitVec 32) (v24 : BitVec 32) (k0_hw2 : k0_chk2 i v19 v24), ∀ (k0_h2 : k0_cond2 i = 1#1), ∀ (k0_h4 : k0_cond4 v19 = 1#1), 8 ∣ (k0_mult2 v24).toNat := fun i v19 v24 k0_hw2 k0_h2 k0_h4 => k0_hw2.1 k0_h2 k0_h4
theorem k0_off6_inb : ∀ (i : grid0.Coords) (v19 : BitVec 32) (v24 : BitVec 32) (k0_hw2 : k0_chk2 i v19 v24), ∀ (k0_h2 : k0_cond2 i = 1#1), ∀ (k0_h4 : k0_cond4 v19 = 1#1), ∀ a, (k0_off6 v24) a + S808x384.size a ≤ S10808x384.size a := fun i v19 v24 k0_hw2 k0_h2 k0_h4 => k0_hw2.2 k0_h2 k0_h4

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c399_i32 : BitVec 32 := 399#32
  let v0 : BitVec 32 := Scalar.minsi arg0 c399_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c399_i32 : BitVec 32 := 399#32
  let v0 : BitVec 32 := Scalar.minsi arg0 c399_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x800x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S800x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10808x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := .none

abbrev stage1_0 : Fin 1 → Memref sig .tc .vmem S10808x384 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S10808x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := ⟨1, ![400], ![false]⟩

abbrev pre2 : Pipeline.Prefetch sig := ⟨2, ![main_v9.idx, main_v13.idx], fun | 0 => main_v9.names | 1 => main_v13.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg0 : BitVec 32 := BitVec.ofNat 32 (i 0).val
  let v2 : Index := Scalar.indexCast arg0
  ![v2.toNat]
def k2_off2 (i : grid2.Coords) : Fin 1 → Nat :=
  let arg0 : BitVec 32 := BitVec.ofNat 32 (i 0).val
  let v21 : Index := Scalar.indexCast arg0
  ![v21.toNat]
def k2_mult1 (v22 : BitVec 32) : BitVec 32 :=
  v22
def k2_cond1 (v7 : BitVec 32) : BitVec 1 :=
  let c64_i32 : BitVec 32 := 64#32
  let v8 : BitVec 1 := Scalar.cmpi .sle v7 c64_i32
  let v9 : BitVec 32 := Scalar.extui v8
  let c0_i32 : BitVec 32 := 0#32
  let v10 : BitVec 1 := Scalar.cmpi .ne v9 c0_i32
  v10

def k2_off3 (v22 : BitVec 32) : Fin 2 → Nat :=
  let v23 : BitVec 32 := v22
  let v24 : Index := Scalar.indexCast v23
  let c0_4 : Index := 0#32
  ![v24.toNat, 0]

def k2_chk1 (v7 : BitVec 32) (v22 : BitVec 32) : Prop :=
  (∀ (k2_h1 : k2_cond1 v7 = 1#1), 8 ∣ (k2_mult1 v22).toNat) ∧
  (∀ (k2_h1 : k2_cond1 v7 = 1#1), ∀ a, (k2_off3 v22) a + S64x256.size a ≤ S10808x256.size a)
theorem k2_mult1_dvd : ∀ (v7 : BitVec 32) (v22 : BitVec 32) (k2_hw1 : k2_chk1 v7 v22), ∀ (k2_h1 : k2_cond1 v7 = 1#1), 8 ∣ (k2_mult1 v22).toNat := fun v7 v22 k2_hw1 k2_h1 => k2_hw1.1 k2_h1
theorem k2_off3_inb : ∀ (v7 : BitVec 32) (v22 : BitVec 32) (k2_hw1 : k2_chk1 v7 v22), ∀ (k2_h1 : k2_cond1 v7 = 1#1), ∀ a, (k2_off3 v22) a + S64x256.size a ≤ S10808x256.size a := fun v7 v22 k2_hw1 k2_h1 => k2_hw1.2 k2_h1

def k2_off4 (i : grid2.Coords) : Fin 1 → Nat :=
  let arg0 : BitVec 32 := BitVec.ofNat 32 (i 0).val
  let v11 : Index := Scalar.indexCast arg0
  ![v11.toNat]
def k2_off5 (i : grid2.Coords) : Fin 1 → Nat :=
  let arg0 : BitVec 32 := BitVec.ofNat 32 (i 0).val
  let v21 : Index := Scalar.indexCast arg0
  ![v21.toNat]
def k2_mult2 (v22 : BitVec 32) : BitVec 32 :=
  v22
def k2_cond2 (v12 : BitVec 32) : BitVec 1 :=
  let c64_i32_2 : BitVec 32 := 64#32
  let v13 : BitVec 1 := Scalar.cmpi .sgt v12 c64_i32_2
  let v14 : BitVec 32 := Scalar.extui v13
  let c0_i32_3 : BitVec 32 := 0#32
  let v15 : BitVec 1 := Scalar.cmpi .ne v14 c0_i32_3
  v15

def k2_off6 (v22 : BitVec 32) : Fin 2 → Nat :=
  let v23 : BitVec 32 := v22
  let v24 : Index := Scalar.indexCast v23
  let c0_4 : Index := 0#32
  ![v24.toNat, 0]

def k2_chk2 (v12 : BitVec 32) (v22 : BitVec 32) : Prop :=
  (∀ (k2_h2 : k2_cond2 v12 = 1#1), 8 ∣ (k2_mult2 v22).toNat) ∧
  (∀ (k2_h2 : k2_cond2 v12 = 1#1), ∀ a, (k2_off6 v22) a + S808x256.size a ≤ S10808x256.size a)
theorem k2_mult2_dvd : ∀ (v12 : BitVec 32) (v22 : BitVec 32) (k2_hw2 : k2_chk2 v12 v22), ∀ (k2_h2 : k2_cond2 v12 = 1#1), 8 ∣ (k2_mult2 v22).toNat := fun v12 v22 k2_hw2 k2_h2 => k2_hw2.1 k2_h2
theorem k2_off6_inb : ∀ (v12 : BitVec 32) (v22 : BitVec 32) (k2_hw2 : k2_chk2 v12 v22), ∀ (k2_h2 : k2_cond2 v12 = 1#1), ∀ a, (k2_off6 v22) a + S808x256.size a ≤ S10808x256.size a := fun v12 v22 k2_hw2 k2_h2 => k2_hw2.2 k2_h2

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1x800x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S800x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10808x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S800x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S320000x128 : Shape := ⟨2, ![320000, 128]⟩
abbrev S320000 : Shape := ⟨1, ![320000]⟩
abbrev S128 : Shape := ⟨1, ![128]⟩
abbrev S_ : Shape := ⟨0, ![]⟩
abbrev S10000 : Shape := ⟨1, ![10000]⟩
abbrev S320000x1 : Shape := ⟨2, ![320000, 1]⟩
abbrev S10000x128 : Shape := ⟨2, ![10000, 128]⟩
abbrev S10000x1 : Shape := ⟨2, ![10000, 1]⟩
abbrev S1x128 : Shape := ⟨2, ![1, 128]⟩

abbrev nBuf : Space → Nat
  | .hbm => 91
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128, .f32⟩
  | .hbm, ⟨3, _⟩ => ⟨S128, .f32⟩
  | .hbm, ⟨4, _⟩ => ⟨S_, .i32⟩
  | .hbm, ⟨5, _⟩ => ⟨S10000, .i32⟩
  | .hbm, ⟨6, _⟩ => ⟨S_, .i32⟩
  | .hbm, ⟨7, _⟩ => ⟨S_, .i32⟩
  | .hbm, ⟨8, _⟩ => ⟨S320000, .i32⟩
  | .hbm, ⟨9, _⟩ => ⟨S320000, .i32⟩
  | .hbm, ⟨10, _⟩ => ⟨S_, .i32⟩
  | .hbm, ⟨11, _⟩ => ⟨S320000, .i32⟩
  | .hbm, ⟨12, _⟩ => ⟨S320000, .i1⟩
  | .hbm, ⟨13, _⟩ => ⟨S_, .i32⟩
  | .hbm, ⟨14, _⟩ => ⟨S320000, .i32⟩
  | .hbm, ⟨15, _⟩ => ⟨S320000, .i32⟩
  | .hbm, ⟨16, _⟩ => ⟨S320000, .i32⟩
  | .hbm, ⟨17, _⟩ => ⟨S320000x1, .i32⟩
  | .hbm, ⟨18, _⟩ => ⟨S_, .i32⟩
  | .hbm, ⟨19, _⟩ => ⟨S320000, .i32⟩
  | .hbm, ⟨20, _⟩ => ⟨S10000, .i32⟩
  | .hbm, ⟨21, _⟩ => ⟨S10000, .f32⟩
  | .hbm, ⟨22, _⟩ => ⟨S_, .f32⟩
  | .hbm, ⟨23, _⟩ => ⟨S_, .f32⟩
  | .hbm, ⟨24, _⟩ => ⟨S10000, .f32⟩
  | .hbm, ⟨25, _⟩ => ⟨S10000, .f32⟩
  | .hbm, ⟨26, _⟩ => ⟨S_, .f32⟩
  | .hbm, ⟨27, _⟩ => ⟨S10000x128, .f32⟩
  | .hbm, ⟨28, _⟩ => ⟨S320000x1, .i32⟩
  | .hbm, ⟨29, _⟩ => ⟨S10000x128, .f32⟩
  | .hbm, ⟨30, _⟩ => ⟨S10000x1, .f32⟩
  | .hbm, ⟨31, _⟩ => ⟨S10000x128, .f32⟩
  | .hbm, ⟨32, _⟩ => ⟨S10000x128, .f32⟩
  | .hbm, ⟨33, _⟩ => ⟨S_, .i32⟩
  | .hbm, ⟨34, _⟩ => ⟨S320000, .i32⟩
  | .hbm, ⟨35, _⟩ => ⟨S320000, .i1⟩
  | .hbm, ⟨36, _⟩ => ⟨S_, .i32⟩
  | .hbm, ⟨37, _⟩ => ⟨S320000, .i32⟩
  | .hbm, ⟨38, _⟩ => ⟨S320000, .i32⟩
  | .hbm, ⟨39, _⟩ => ⟨S320000, .i32⟩
  | .hbm, ⟨40, _⟩ => ⟨S320000x1, .i32⟩
  | .hbm, ⟨41, _⟩ => ⟨S320000x128, .f32⟩
  | .hbm, ⟨42, _⟩ => ⟨S320000x128, .f32⟩
  | .hbm, ⟨43, _⟩ => ⟨S320000x128, .f32⟩
  | .hbm, ⟨44, _⟩ => ⟨S_, .f32⟩
  | .hbm, ⟨45, _⟩ => ⟨S10000x128, .f32⟩
  | .hbm, ⟨46, _⟩ => ⟨S320000x1, .i32⟩
  | .hbm, ⟨47, _⟩ => ⟨S10000x128, .f32⟩
  | .hbm, ⟨48, _⟩ => ⟨S_, .f32⟩
  | .hbm, ⟨49, _⟩ => ⟨S10000x128, .f32⟩
  | .hbm, ⟨50, _⟩ => ⟨S10000x128, .f32⟩
  | .hbm, ⟨51, _⟩ => ⟨S10000x1, .f32⟩
  | .hbm, ⟨52, _⟩ => ⟨S_, .f32⟩
  | .hbm, ⟨53, _⟩ => ⟨S10000x1, .f32⟩
  | .hbm, ⟨54, _⟩ => ⟨S10000x1, .f32⟩
  | .hbm, ⟨55, _⟩ => ⟨S10000x128, .f32⟩
  | .hbm, ⟨56, _⟩ => ⟨S10000x128, .f32⟩
  | .hbm, ⟨57, _⟩ => ⟨S_, .f32⟩
  | .hbm, ⟨58, _⟩ => ⟨S_, .f32⟩
  | .hbm, ⟨59, _⟩ => ⟨S10000x128, .f32⟩
  | .hbm, ⟨60, _⟩ => ⟨S10000x128, .f32⟩
  | .hbm, ⟨61, _⟩ => ⟨S10000x128, .f32⟩
  | .hbm, ⟨62, _⟩ => ⟨S_, .i32⟩
  | .hbm, ⟨63, _⟩ => ⟨S320000, .i32⟩
  | .hbm, ⟨64, _⟩ => ⟨S320000, .i1⟩
  | .hbm, ⟨65, _⟩ => ⟨S_, .i32⟩
  | .hbm, ⟨66, _⟩ => ⟨S320000, .i32⟩
  | .hbm, ⟨67, _⟩ => ⟨S320000, .i32⟩
  | .hbm, ⟨68, _⟩ => ⟨S320000, .i32⟩
  | .hbm, ⟨69, _⟩ => ⟨S320000x1, .i32⟩
  | .hbm, ⟨70, _⟩ => ⟨S320000x128, .f32⟩
  | .hbm, ⟨71, _⟩ => ⟨S320000x128, .f32⟩
  | .hbm, ⟨72, _⟩ => ⟨S_, .i32⟩
  | .hbm, ⟨73, _⟩ => ⟨S320000, .i32⟩
  | .hbm, ⟨74, _⟩ => ⟨S320000, .i1⟩
  | .hbm, ⟨75, _⟩ => ⟨S_, .i32⟩
  | .hbm, ⟨76, _⟩ => ⟨S320000, .i32⟩
  | .hbm, ⟨77, _⟩ => ⟨S320000, .i32⟩
  | .hbm, ⟨78, _⟩ => ⟨S320000, .i32⟩
  | .hbm, ⟨79, _⟩ => ⟨S320000x1, .i32⟩
  | .hbm, ⟨80, _⟩ => ⟨S320000x128, .f32⟩
  | .hbm, ⟨81, _⟩ => ⟨S_, .f32⟩
  | .hbm, ⟨82, _⟩ => ⟨S320000x128, .f32⟩
  | .hbm, ⟨83, _⟩ => ⟨S320000x128, .f32⟩
  | .hbm, ⟨84, _⟩ => ⟨S320000x128, .f32⟩
  | .hbm, ⟨85, _⟩ => ⟨S1x128, .f32⟩
  | .hbm, ⟨86, _⟩ => ⟨S320000x128, .f32⟩
  | .hbm, ⟨87, _⟩ => ⟨S320000x128, .f32⟩
  | .hbm, ⟨88, _⟩ => ⟨S1x128, .f32⟩
  | .hbm, ⟨89, _⟩ => ⟨S320000x128, .f32⟩
  | .hbm, ⟨90, _⟩ => ⟨S320000x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v1 : Ref sig .tc := ⟨.hbm, 9, rfl⟩
abbrev main_c_1 : Ref sig .tc := ⟨.hbm, 10, rfl⟩
abbrev main_v2 : Ref sig .tc := ⟨.hbm, 11, rfl⟩
abbrev main_v3 : Ref sig .tc := ⟨.hbm, 12, rfl⟩
abbrev main_c_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_call1_v0 : Ref sig .tc := ⟨.hbm, 23, rfl⟩
abbrev main_call1_v1 : Ref sig .tc := ⟨.hbm, 24, rfl⟩
abbrev main_v11 : Ref sig .tc := ⟨.hbm, 25, rfl⟩
abbrev main_cst_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_c_6 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_10 : Ref sig .tc := ⟨.hbm, 57, rfl⟩
abbrev main_call2_v0 : Ref sig .tc := ⟨.hbm, 58, rfl⟩
abbrev main_call2_v1 : Ref sig .tc := ⟨.hbm, 59, rfl⟩
abbrev main_v37 : Ref sig .tc := ⟨.hbm, 60, rfl⟩
abbrev main_v38 : Ref sig .tc := ⟨.hbm, 61, rfl⟩
abbrev main_c_11 : Ref sig .tc := ⟨.hbm, 62, rfl⟩
abbrev main_v39 : Ref sig .tc := ⟨.hbm, 63, rfl⟩
abbrev main_v40 : Ref sig .tc := ⟨.hbm, 64, rfl⟩
abbrev main_c_12 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_13 : Ref sig .tc := ⟨.hbm, 72, rfl⟩
abbrev main_v47 : Ref sig .tc := ⟨.hbm, 73, rfl⟩
abbrev main_v48 : Ref sig .tc := ⟨.hbm, 74, rfl⟩
abbrev main_c_14 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_15 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩

abbrev nD : Nat := 1
abbrev τ : Topo := Topo.v7x

variable {F : FTy → Type} [FloatOps F]
-- ==== Proof.Owns.lean ====
/-
  Loads and stores of a memref owned at a value. Each rule here says what one memory operation at the head
  of a program does when the memref it goes through is owned at the value `X`: a load hands the program `X`
  (or a window of it), an unmasked store leaves `X` with the payload put over the window.
-/
module

public import Idealize.ShloMosaic.Lib.VecWindow
public import Idealize.ShloMosaic.Lib.Memref
public import Idealize.ShloMosaic.Lib.Tactic

@[expose] public section

noncomputable section

namespace Cert.Proof.Owned

open Idealize.ShloMosaic
open Idealize.SL Idealize.SL.RA
open Idealize.SL.BI (sProp)
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name] {U : Type} [URA U] {Lvl : Type} {Λ : Labels}
variable [Preorder Lvl] {defs : Defs nD τ sig Val Λ} (𝒱 : Variants) (c : Thread nD τ) (E : Set Name)
variable {s : Shape} {e : EltTy} {α : Type} {Q : α → sProp (MT nD τ sig Ix Val Name U Lvl)}

/-- A load through a unit-stride rectangle of a memref owned at `X` continues at the window of `X`. -/
theorem load_win {cs : CoreSpace} (m : Memref sig c.2.kind cs s e) {off size : Fin s.rank → ℕ} (inb : ∀ a, off a + size a ≤ s.size a)
    {hl : m.view.LoadsAt (Rect.unit off size inb).toLoadRect}
    {k : ((Rect.unit off size inb).toLoadRect.shape.Idx → Val e) → Prog (TpuEff nD τ sig Val Λ c.2) α}
    {q : PosShare TreeShare} (X : s.Idx → Val e) :
    (owns c m q X)
      ⊢ iprop((owns c m q X -∗ wp frame (wpE defs 𝒱 c none) E (k (VecWindow.window X off size inb)) Q)
        -∗ wp frame (wpE defs 𝒱 c none) E (.op (.load m (Rect.unit off size inb).toLoadRect hl) k) Q) := by
  unfold owns
  iintro ⟨%f, %hf, H⟩ Hk
  subst hf
  iapply (wp_load 𝒱 c none E (m := m) (S := m.view.set) (View.setOn_subset_set _ _)) $$ H
  iintro H
  iapply Hk
  iexists f
  isplitr
  · ipureintro; rfl
  iexact H

/-- A load of all of a memref owned at `X` continues at `X`. -/
theorem load_full {cs : CoreSpace} (m : Memref sig c.2.kind cs s e) {off : Fin s.rank → ℕ} (inb : ∀ a, off a + s.size a ≤ s.size a)
    {hl : m.view.LoadsAt (Rect.unit off s.size inb).toLoadRect}
    {k : (s.Idx → Val e) → Prog (TpuEff nD τ sig Val Λ c.2) α}
    {q : PosShare TreeShare} (X : s.Idx → Val e) :
    (owns c m q X)
      ⊢ iprop((owns c m q X -∗ wp frame (wpE defs 𝒱 c none) E (k X) Q)
        -∗ wp frame (wpE defs 𝒱 c none) E (.op (.load m (Rect.unit off s.size inb).toLoadRect hl) k) Q) := by
  have h := load_win (defs := defs) 𝒱 c E m inb (hl := hl) (k := k) (q := q) (Q := Q) X
  rwa [show VecWindow.window X off s.size inb = X from
    funext fun y => congrArg X (Rect.emb_unit_full inb y)] at h

/-- The one word of a scalar-memory buffer that the unit rectangle names. -/
def word (X : s.Idx → Val e) (off size : Fin s.rank → ℕ) (inb : ∀ a, off a + size a ≤ s.size a)
    (h1 : (Rect.unit off size inb).shape.numel = 1) : Val e :=
  VecWindow.window X off size inb (Shape.Idx.first (h1.symm ▸ Nat.one_pos))

/-- A scalar load from a table owned at `X` continues at the word of `X` it names. -/
theorem load_word (m : Memref sig c.2.kind .smem s e) {off size : Fin s.rank → ℕ} (inb : ∀ a, off a + size a ≤ s.size a)
    (h1 : (Rect.unit off size inb).shape.numel = 1) (hp : e.packing = 1)
    {k : Val e → Prog (TpuEff nD τ sig Val Λ c.2) α} {q : PosShare TreeShare} (X : s.Idx → Val e) :
    (owns c m q X)
      ⊢ iprop((owns c m q X -∗ wp frame (wpE defs 𝒱 c none) E (k (word X off size inb h1)) Q)
        -∗ wp frame (wpE defs 𝒱 c none) E (smemLoad m (Rect.unit off size inb) h1 hp >>= k) Q) := by
  unfold smemLoad smemLoadElt
  exact load_win (defs := defs) 𝒱 c E m inb (Q := Q) (q := q) (k := fun f => k (f (Shape.Idx.first (h1.symm ▸ Nat.one_pos)))) X

/-- An unmasked store through a unit-stride rectangle of a memref owned at `X` leaves the payload put there. -/
theorem store_win {cs : CoreSpace} (m : Memref sig c.2.kind cs s e) {off size : Fin s.rank → ℕ} (inb : ∀ a, off a + size a ≤ s.size a)
    {w : (Rect.unit off size inb).shape.Idx → Val e} {hx : (m.access (Rect.unit off size inb)).Stores Finset.univ}
    {hm : Finset.univ = Finset.univ ∨ ∀ a, (Rect.unit off size inb).stride a = 1}
    {k : PUnit → Prog (TpuEff nD τ sig Val Λ c.2) α} (X : s.Idx → Val e) :
    (owns c m fullShare X)
      ⊢ iprop((owns c m fullShare (VecWindow.put X off size w) -∗ wp frame (wpE defs 𝒱 c none) E (k ⟨⟩) Q)
        -∗ wp frame (wpE defs 𝒱 c none) E (.op (.store m (Rect.unit off size inb) w Finset.univ hx hm) k) Q) := by
  unfold owns
  iintro ⟨%f, %hf, H⟩ Hk
  subst hf
  have hS : (m.access (Rect.unit off size inb)).setOn Finset.univ ⊆ m.view.set := fun i hi => by
    obtain ⟨y, -, rfl⟩ := Finset.mem_map.mp hi
    exact Finset.mem_map.mpr ⟨_, Finset.mem_univ _, rfl⟩
  iapply (wp_store 𝒱 c none E (m := m) (r := Rect.unit off size inb) (S := m.view.set) hS) $$ H
  iintro H
  iapply Hk
  iexists _
  isplitr
  swap
  · iexact H
  ipureintro
  exact View.read_writes_cons_put m.view f inb w [] rfl

/-- An unmasked store over all of a memref leaves the payload. -/
theorem store_full {cs : CoreSpace} (m : Memref sig c.2.kind cs s e) {off : Fin s.rank → ℕ} (inb : ∀ a, off a + s.size a ≤ s.size a)
    {w : s.Idx → Val e} {hx : (m.access (Rect.unit off s.size inb)).Stores Finset.univ}
    {hm : Finset.univ = Finset.univ ∨ ∀ a, (Rect.unit off s.size inb).stride a = 1}
    {k : PUnit → Prog (TpuEff nD τ sig Val Λ c.2) α} (X : s.Idx → Val e) :
    (owns c m fullShare X)
      ⊢ iprop((owns c m fullShare w -∗ wp frame (wpE defs 𝒱 c none) E (k ⟨⟩) Q)
        -∗ wp frame (wpE defs 𝒱 c none) E (.op (.store m (Rect.unit off s.size inb) w Finset.univ hx hm) k) Q) := by
  have h := store_win (defs := defs) 𝒱 c E m inb (w := w) (hx := hx) (hm := hm) (k := k) (Q := Q) X
  rwa [show VecWindow.put X off s.size w = w from by
    funext y
    have hy : ∀ a, off a ≤ (y a).val ∧ (y a).val < off a + s.size a := fun a => by
      have := inb a; have := (y a).isLt; omega
    unfold VecWindow.put
    rw [dif_pos hy]
    exact congrArg w (funext fun a => Fin.ext (by
      show (y a).val - off a = (y a).val
      have := inb a; omega))] at h

/-- A program that returns is left at its postcondition. -/
theorem done (Q : α → sProp (MT nD τ sig Ix Val Name U Lvl)) (v : α) :
    Q v ⊢ wp frame (wpE defs 𝒱 c none) E (Prog.ret v) Q := by
  rw [wp_ret]
  iintro H
  imodintro
  iexact H

end Cert.Proof.Owned

end
-- ==== Proof.Bodies.lean ====
/-
  The body of the first kernel (the running sums) and of the third (the normalisation), each run once over
  memrefs owned at values: what the output's buffer holds afterwards is a closed function of the two tables,
  the staged blocks and what the buffer held before.
-/
module

public import proofs.«01_k».proof.Proof.Owns
public import proofs.«01_k».proof.Proof.Gen.KernelIdeal.Skeleton
public import proofs.«01_k».proof.Proof.Gen.KernelIdeal.Launch

@[expose] public section

set_option maxRecDepth 16384

noncomputable section

namespace Cert.KernelIdeal.Run

open Cert.KernelIdeal Cert.KernelIdeal.Gen
open Cert.Proof
open Idealize.ShloMosaic Idealize.ShloMosaic.TcCoe
open Idealize.SL Idealize.SL.RA
open Idealize.SL.BI (sProp)
open scoped Idealize.SL.BI
open Idealize.SL.BI.BIBase Idealize.SL.BI.Laws Idealize.SL.ProofMode Idealize.SL.Sem

variable {F : FTy → Type} [FloatOps F]
variable {Ix : Type} [DecidableEq Ix] {Name : Type} [DecidableEq Name] {U : Type} [URA U] {Lvl : Type} [Preorder Lvl]

/-- The word of a table for a block of the first kernel. -/
abbrev word0 (T : Vec F S400 .i32) (i : grid0.Coords) (h2 : k0_cond2 i = 1#1) : Elt F .i32 :=
  Owned.word T (k0_off1 i) S1.size (k0_off1_inb i h2) numel1_S1

/-- The word of a table for a block of the third kernel. -/
abbrev word2 (T : Vec F S400 .i32) (i : grid2.Coords) : Elt F .i32 :=
  Owned.word T (k2_off1 i) S1.size (k2_off1_inb i) numel1_S1

/-- The two tables pass every check the kernels make of them: `base` the window's first row per block, `span` the rows it needs. -/
structure Fits (base span : Vec F S400 .i32) : Prop where
  small0 : ∀ (i : grid0.Coords) (h2 : k0_cond2 i = 1#1), k0_chk1 i (word0 span i h2) (word0 base i h2)
  large0 : ∀ (i : grid0.Coords) (h2 : k0_cond2 i = 1#1), k0_chk2 i (word0 span i h2) (word0 base i h2)
  small2 : ∀ i : grid2.Coords, k2_chk1 (word2 span i) (word2 base i)
  large2 : ∀ i : grid2.Coords, k2_chk2 (word2 span i) (word2 base i)

/-- The running sums after the window of 64 rows took in a block, if its span asks for that window. -/
def addSmall (base span : Vec F S400 .i32) (H : Fits base span) (i : grid0.Coords) (h2 : k0_cond2 i = 1#1)
    (r : Vec F S1x800x1 .i32) (x : Vec F S800x128 .f32) (a : Vec F S10808x384 .f32) : Vec F S10808x384 .f32 :=
  if h3 : k0_cond3 (word0 span i h2) = 1#1 then
    VecWindow.put a (k0_off3 (word0 base i h2)) S64x384.size (k0_pay3 r (word0 base i h2) x
      (VecWindow.window a (k0_off3 (word0 base i h2)) S64x384.size (k0_off3_inb i _ _ (H.small0 i h2) h2 h3)))
  else a

/-- The same for the window of 808 rows. -/
def addLarge (base span : Vec F S400 .i32) (H : Fits base span) (i : grid0.Coords) (h2 : k0_cond2 i = 1#1)
    (r : Vec F S1x800x1 .i32) (x : Vec F S800x128 .f32) (a : Vec F S10808x384 .f32) : Vec F S10808x384 .f32 :=
  if h4 : k0_cond4 (word0 span i h2) = 1#1 then
    VecWindow.put a (k0_off6 (word0 base i h2)) S808x384.size (k0_pay4 r (word0 base i h2) x
      (VecWindow.window a (k0_off6 (word0 base i h2)) S808x384.size (k0_off6_inb i _ _ (H.large0 i h2) h2 h4)))
  else a

/-- What the first kernel's body leaves in the running sums at a point. -/
def sums (base span : Vec F S400 .i32) (H : Fits base span) (i : grid0.Coords)
    (r : Vec F S1x800x1 .i32) (x : Vec F S800x128 .f32) (a : Vec F S10808x384 .f32) : Vec F S10808x384 .f32 :=
  if h2 : k0_cond2 i = 1#1 then
    addLarge base span H i h2 r x (addSmall base span H i h2 r x (if k0_cond1 i = 1#1 then k0_pay1 else a))
  else if k0_cond1 i = 1#1 then k0_pay1 else a

/-- The first kernel's body at a point: the tables and the two input blocks unchanged, the running sums at `sums`. -/
theorem run0 (c : Dev nD) (E : Set Name) (i : grid0.Coords) (base span : Vec F S400 .i32) (H : Fits base span)
    (M1 : Memref sig .tc .smem S400 .i32) (g1 : M1.IsWhole) (M2 : Memref sig .tc .smem S400 .i32) (g2 : M2.IsWhole)
    (M3 : Memref sig .tc .vmem S1x800x1 .i32) (g3 : M3.IsWhole) (M4 : Memref sig .tc .vmem S800x128 .f32) (g4 : M4.IsWhole)
    (M5 : Memref sig .tc .vmem S10808x384 .f32) (g5 : M5.IsWhole)
    (r : Vec F S1x800x1 .i32) (x : Vec F S800x128 .f32) (a : Vec F S10808x384 .f32)
    {q1 q2 q3 q4 : PosShare TreeShare} {Q : PUnit → sProp (MT nD τ sig Ix (Elt F) Name U Lvl)} :
    iprop(owns (c : Thread nD τ) M1 q1 base ∗ owns (c : Thread nD τ) M2 q2 span ∗ owns (c : Thread nD τ) M3 q3 r
        ∗ owns (c : Thread nD τ) M4 q4 x ∗ owns (c : Thread nD τ) M5 fullShare a)
      ⊢ iprop((iprop(owns (c : Thread nD τ) M1 q1 base ∗ owns (c : Thread nD τ) M2 q2 span ∗ owns (c : Thread nD τ) M3 q3 r
          ∗ owns (c : Thread nD τ) M4 q4 x ∗ owns (c : Thread nD τ) M5 fullShare (sums base span H i r x a)) -∗ Q ⟨⟩)
        -∗ wp frame (wpE (defs₀ (F := F)) Variants.none c none) E (cc0__stats_body i M1 g1 M2 g2 M3 g3 M4 g4 M5 g5) Q) := by
  rw [cc0__stats_body_eq_skeleton]
  unfold cc0__stats_body_skel
  iintro ⟨H1, H2, H3, H4, H5⟩ Hk
  have hs : ∀ h2 : k0_cond2 i = 1#1, sums base span H i r x a
      = addLarge base span H i h2 r x (addSmall base span H i h2 r x (if k0_cond1 i = 1#1 then k0_pay1 else a)) := fun h2 => dif_pos h2
  have hs' : ¬k0_cond2 i = 1#1 → sums base span H i r x a = (if k0_cond1 i = 1#1 then k0_pay1 else a) := fun h2 => dif_neg h2
  generalize sums base span H i r x a = b at hs hs'
  by_cases h1 : k0_cond1 i = 1#1
  · rw [dif_pos h1]
    rw [if_pos h1] at hs hs'
    iapply (Owned.load_full Variants.none (c : Thread nD τ) E M5 _ (q := fullShare) a) $$ H5
    iintro H5
    iapply (Owned.store_full Variants.none (c : Thread nD τ) E M5 _ a) $$ H5
    iintro H5
    simp only [Prog.bind_op, Prog.bind_ret]
    generalize (k0_pay1 : Vec F S10808x384 .f32) = a at hs hs' ⊢
    by_cases h2 : k0_cond2 i = 1#1
    · specialize hs h2
      rw [dif_pos h2]
      iapply (Owned.load_full Variants.none (c : Thread nD τ) E M3 _ (q := q3) r) $$ H3
      iintro H3
      iapply (Owned.load_word Variants.none (c : Thread nD τ) E M1 (size := S1.size) (k0_off1_inb i h2) numel1_S1 rfl (q := q1) base) $$ H1
      iintro H1
      iapply (Owned.load_full Variants.none (c : Thread nD τ) E M4 _ (q := q4) x) $$ H4
      iintro H4
      iapply (Owned.load_word Variants.none (c : Thread nD τ) E M2 (size := S1.size) (k0_off1_inb i h2) numel1_S1 rfl (q := q2) span) $$ H2
      iintro H2
      simp only [Prog.bind_op, Prog.bind_ret]
      by_cases h3 : k0_cond3 (word0 span i h2) = 1#1
      · rw [dif_pos h3]
        rw [addSmall, dif_pos h3] at hs
        iapply (Owned.load_word Variants.none (c : Thread nD τ) E M1 (size := S1.size) (k0_off1_inb i h2) numel1_S1 rfl (q := q1) base) $$ H1
        iintro H1
        iapply (wp_assume Variants.none (c : Thread nD τ) none E (H.small0 i h2))
        iapply (Owned.load_win Variants.none (c : Thread nD τ) E M5 (size := S64x384.size) (k0_off3_inb i _ _ (H.small0 i h2) h2 h3) (q := fullShare) a) $$ H5
        iintro H5
        iapply (Owned.load_win Variants.none (c : Thread nD τ) E M5 (size := S64x384.size) (k0_off3_inb i _ _ (H.small0 i h2) h2 h3) (q := fullShare) a) $$ H5
        iintro H5
        iapply (Owned.store_win Variants.none (c : Thread nD τ) E M5 (size := S64x384.size) (k0_off3_inb i _ _ (H.small0 i h2) h2 h3) a) $$ H5
        iintro H5
        simp only [Prog.bind_op, Prog.bind_ret]
        iapply (Owned.load_word Variants.none (c : Thread nD τ) E M2 (size := S1.size) (k0_off1_inb i h2) numel1_S1 rfl (q := q2) span) $$ H2
        iintro H2
        simp only [Prog.bind_op, Prog.bind_ret]
        generalize VecWindow.put a _ _ _ = a at hs ⊢
        by_cases h4 : k0_cond4 (word0 span i h2) = 1#1
        · rw [dif_pos h4]
          rw [addLarge, dif_pos h4] at hs
          iapply (Owned.load_word Variants.none (c : Thread nD τ) E M1 (size := S1.size) (k0_off1_inb i h2) numel1_S1 rfl (q := q1) base) $$ H1
          iintro H1
          iapply (wp_assume Variants.none (c : Thread nD τ) none E (H.large0 i h2))
          iapply (Owned.load_win Variants.none (c : Thread nD τ) E M5 (size := S808x384.size) (k0_off6_inb i _ _ (H.large0 i h2) h2 h4) (q := fullShare) a) $$ H5
          iintro H5
          iapply (Owned.load_win Variants.none (c : Thread nD τ) E M5 (size := S808x384.size) (k0_off6_inb i _ _ (H.large0 i h2) h2 h4) (q := fullShare) a) $$ H5
          iintro H5
          iapply (Owned.store_win Variants.none (c : Thread nD τ) E M5 (size := S808x384.size) (k0_off6_inb i _ _ (H.large0 i h2) h2 h4) a) $$ H5
          iintro H5
          simp only [Prog.bind_op, Prog.bind_ret]
          iapply (Owned.done Variants.none (c : Thread nD τ) E Q ⟨⟩)
          iapply Hk
          subst hs
          isplitl [H1]; · iexact H1
          isplitl [H2]; · iexact H2
          isplitl [H3]; · iexact H3
          isplitl [H4]; · iexact H4
          iexact H5
        · rw [dif_neg h4]
          rw [addLarge, dif_neg h4] at hs
          iapply (Owned.done Variants.none (c : Thread nD τ) E Q ⟨⟩)
          iapply Hk
          subst hs
          isplitl [H1]; · iexact H1
          isplitl [H2]; · iexact H2
          isplitl [H3]; · iexact H3
          isplitl [H4]; · iexact H4
          iexact H5
      · rw [dif_neg h3]
        rw [addSmall, dif_neg h3] at hs
        iapply (Owned.load_word Variants.none (c : Thread nD τ) E M2 (size := S1.size) (k0_off1_inb i h2) numel1_S1 rfl (q := q2) span) $$ H2
        iintro H2
        simp only [Prog.bind_op, Prog.bind_ret]
        by_cases h4 : k0_cond4 (word0 span i h2) = 1#1
        · rw [dif_pos h4]
          rw [addLarge, dif_pos h4] at hs
          iapply (Owned.load_word Variants.none (c : Thread nD τ) E M1 (size := S1.size) (k0_off1_inb i h2) numel1_S1 rfl (q := q1) base) $$ H1
          iintro H1
          iapply (wp_assume Variants.none (c : Thread nD τ) none E (H.large0 i h2))
          iapply (Owned.load_win Variants.none (c : Thread nD τ) E M5 (size := S808x384.size) (k0_off6_inb i _ _ (H.large0 i h2) h2 h4) (q := fullShare) a) $$ H5
          iintro H5
          iapply (Owned.load_win Variants.none (c : Thread nD τ) E M5 (size := S808x384.size) (k0_off6_inb i _ _ (H.large0 i h2) h2 h4) (q := fullShare) a) $$ H5
          iintro H5
          iapply (Owned.store_win Variants.none (c : Thread nD τ) E M5 (size := S808x384.size) (k0_off6_inb i _ _ (H.large0 i h2) h2 h4) a) $$ H5
          iintro H5
          simp only [Prog.bind_op, Prog.bind_ret]
          iapply (Owned.done Variants.none (c : Thread nD τ) E Q ⟨⟩)
          iapply Hk
          subst hs
          isplitl [H1]; · iexact H1
          isplitl [H2]; · iexact H2
          isplitl [H3]; · iexact H3
          isplitl [H4]; · iexact H4
          iexact H5
        · rw [dif_neg h4]
          rw [addLarge, dif_neg h4] at hs
          iapply (Owned.done Variants.none (c : Thread nD τ) E Q ⟨⟩)
          iapply Hk
          subst hs
          isplitl [H1]; · iexact H1
          isplitl [H2]; · iexact H2
          isplitl [H3]; · iexact H3
          isplitl [H4]; · iexact H4
          iexact H5
    · specialize hs' h2
      rw [dif_neg h2]
      iapply (Owned.done Variants.none (c : Thread nD τ) E Q ⟨⟩)
      iapply Hk
      subst hs'
      isplitl [H1]; · iexact H1
      isplitl [H2]; · iexact H2
      isplitl [H3]; · iexact H3
      isplitl [H4]; · iexact H4
      iexact H5
  · rw [dif_neg h1]
    rw [if_neg h1] at hs hs'
    by_cases h2 : k0_cond2 i = 1#1
    · specialize hs h2
      rw [dif_pos h2]
      iapply (Owned.load_full Variants.none (c : Thread nD τ) E M3 _ (q := q3) r) $$ H3
      iintro H3
      iapply (Owned.load_word Variants.none (c : Thread nD τ) E M1 (size := S1.size) (k0_off1_inb i h2) numel1_S1 rfl (q := q1) base) $$ H1
      iintro H1
      iapply (Owned.load_full Variants.none (c : Thread nD τ) E M4 _ (q := q4) x) $$ H4
      iintro H4
      iapply (Owned.load_word Variants.none (c : Thread nD τ) E M2 (size := S1.size) (k0_off1_inb i h2) numel1_S1 rfl (q := q2) span) $$ H2
      iintro H2
      simp only [Prog.bind_op, Prog.bind_ret]
      by_cases h3 : k0_cond3 (word0 span i h2) = 1#1
      · rw [dif_pos h3]
        rw [addSmall, dif_pos h3] at hs
        iapply (Owned.load_word Variants.none (c : Thread nD τ) E M1 (size := S1.size) (k0_off1_inb i h2) numel1_S1 rfl (q := q1) base) $$ H1
        iintro H1
        iapply (wp_assume Variants.none (c : Thread nD τ) none E (H.small0 i h2))
        iapply (Owned.load_win Variants.none (c : Thread nD τ) E M5 (size := S64x384.size) (k0_off3_inb i _ _ (H.small0 i h2) h2 h3) (q := fullShare) a) $$ H5
        iintro H5
        iapply (Owned.load_win Variants.none (c : Thread nD τ) E M5 (size := S64x384.size) (k0_off3_inb i _ _ (H.small0 i h2) h2 h3) (q := fullShare) a) $$ H5
        iintro H5
        iapply (Owned.store_win Variants.none (c : Thread nD τ) E M5 (size := S64x384.size) (k0_off3_inb i _ _ (H.small0 i h2) h2 h3) a) $$ H5
        iintro H5
        simp only [Prog.bind_op, Prog.bind_ret]
        iapply (Owned.load_word Variants.none (c : Thread nD τ) E M2 (size := S1.size) (k0_off1_inb i h2) numel1_S1 rfl (q := q2) span) $$ H2
        iintro H2
        simp only [Prog.bind_op, Prog.bind_ret]
        generalize VecWindow.put a _ _ _ = a at hs ⊢
        by_cases h4 : k0_cond4 (word0 span i h2) = 1#1
        · rw [dif_pos h4]
          rw [addLarge, dif_pos h4] at hs
          iapply (Owned.load_word Variants.none (c : Thread nD τ) E M1 (size := S1.size) (k0_off1_inb i h2) numel1_S1 rfl (q := q1) base) $$ H1
          iintro H1
          iapply (wp_assume Variants.none (c : Thread nD τ) none E (H.large0 i h2))
          iapply (Owned.load_win Variants.none (c : Thread nD τ) E M5 (size := S808x384.size) (k0_off6_inb i _ _ (H.large0 i h2) h2 h4) (q := fullShare) a) $$ H5
          iintro H5
          iapply (Owned.load_win Variants.none (c : Thread nD τ) E M5 (size := S808x384.size) (k0_off6_inb i _ _ (H.large0 i h2) h2 h4) (q := fullShare) a) $$ H5
          iintro H5
          iapply (Owned.store_win Variants.none (c : Thread nD τ) E M5 (size := S808x384.size) (k0_off6_inb i _ _ (H.large0 i h2) h2 h4) a) $$ H5
          iintro H5
          simp only [Prog.bind_op, Prog.bind_ret]
          iapply (Owned.done Variants.none (c : Thread nD τ) E Q ⟨⟩)
          iapply Hk
          subst hs
          isplitl [H1]; · iexact H1
          isplitl [H2]; · iexact H2
          isplitl [H3]; · iexact H3
          isplitl [H4]; · iexact H4
          iexact H5
        · rw [dif_neg h4]
          rw [addLarge, dif_neg h4] at hs
          iapply (Owned.done Variants.none (c : Thread nD τ) E Q ⟨⟩)
          iapply Hk
          subst hs
          isplitl [H1]; · iexact H1
          isplitl [H2]; · iexact H2
          isplitl [H3]; · iexact H3
          isplitl [H4]; · iexact H4
          iexact H5
      · rw [dif_neg h3]
        rw [addSmall, dif_neg h3] at hs
        iapply (Owned.load_word Variants.none (c : Thread nD τ) E M2 (size := S1.size) (k0_off1_inb i h2) numel1_S1 rfl (q := q2) span) $$ H2
        iintro H2
        simp only [Prog.bind_op, Prog.bind_ret]
        by_cases h4 : k0_cond4 (word0 span i h2) = 1#1
        · rw [dif_pos h4]
          rw [addLarge, dif_pos h4] at hs
          iapply (Owned.load_word Variants.none (c : Thread nD τ) E M1 (size := S1.size) (k0_off1_inb i h2) numel1_S1 rfl (q := q1) base) $$ H1
          iintro H1
          iapply (wp_assume Variants.none (c : Thread nD τ) none E (H.large0 i h2))
          iapply (Owned.load_win Variants.none (c : Thread nD τ) E M5 (size := S808x384.size) (k0_off6_inb i _ _ (H.large0 i h2) h2 h4) (q := fullShare) a) $$ H5
          iintro H5
          iapply (Owned.load_win Variants.none (c : Thread nD τ) E M5 (size := S808x384.size) (k0_off6_inb i _ _ (H.large0 i h2) h2 h4) (q := fullShare) a) $$ H5
          iintro H5
          iapply (Owned.store_win Variants.none (c : Thread nD τ) E M5 (size := S808x384.size) (k0_off6_inb i _ _ (H.large0 i h2) h2 h4) a) $$ H5
          iintro H5
          simp only [Prog.bind_op, Prog.bind_ret]
          iapply (Owned.done Variants.none (c : Thread nD τ) E Q ⟨⟩)
          iapply Hk
          subst hs
          isplitl [H1]; · iexact H1
          isplitl [H2]; · iexact H2
          isplitl [H3]; · iexact H3
          isplitl [H4]; · iexact H4
          iexact H5
        · rw [dif_neg h4]
          rw [addLarge, dif_neg h4] at hs
          iapply (Owned.done Variants.none (c : Thread nD τ) E Q ⟨⟩)
          iapply Hk
          subst hs
          isplitl [H1]; · iexact H1
          isplitl [H2]; · iexact H2
          isplitl [H3]; · iexact H3
          isplitl [H4]; · iexact H4
          iexact H5
    · specialize hs' h2
      rw [dif_neg h2]
      iapply (Owned.done Variants.none (c : Thread nD τ) E Q ⟨⟩)
      iapply Hk
      subst hs'
      isplitl [H1]; · iexact H1
      isplitl [H2]; · iexact H2
      isplitl [H3]; · iexact H3
      isplitl [H4]; · iexact H4
      iexact H5

/-! ## The second kernel's body -/

/-- What the second kernel's body leaves: scale and shift per row of the running sums. -/
def fin (a : Vec F S10808x384 .f32) (w b : Vec F S1x128 .f32) : Vec F S10808x256 .f32 :=
  k1_pay1 (VecWindow.window (s := S10808x384) a ![0, 0] S10808x128.size inb_S10808x384_S10808x128_0_0)
    (VecWindow.window (s := S10808x384) a ![0, 128] S10808x128.size inb_S10808x384_S10808x128_0_128)
    (VecWindow.window (s := S10808x384) a ![0, 256] S10808x1.size inb_S10808x384_S10808x1_0_256) w b

/-- The second kernel's body: its inputs unchanged, its output at `fin`. -/
theorem run1 (c : Dev nD) (E : Set Name)
    (M0 : Memref sig .tc .vmem S10808x384 .f32) (g0 : M0.IsWhole) (M1 : Memref sig .tc .vmem S1x128 .f32) (g1 : M1.IsWhole)
    (M2 : Memref sig .tc .vmem S1x128 .f32) (g2 : M2.IsWhole) (M3 : Memref sig .tc .vmem S10808x256 .f32) (g3 : M3.IsWhole)
    (a : Vec F S10808x384 .f32) (w b : Vec F S1x128 .f32) (o : Vec F S10808x256 .f32)
    {q0 q1 q2 : PosShare TreeShare} {Q : PUnit → sProp (MT nD τ sig Ix (Elt F) Name U Lvl)} :
    iprop(owns (c : Thread nD τ) M0 q0 a ∗ owns (c : Thread nD τ) M1 q1 w ∗ owns (c : Thread nD τ) M2 q2 b ∗ owns (c : Thread nD τ) M3 fullShare o)
      ⊢ iprop((iprop(owns (c : Thread nD τ) M0 q0 a ∗ owns (c : Thread nD τ) M1 q1 w ∗ owns (c : Thread nD τ) M2 q2 b
          ∗ owns (c : Thread nD τ) M3 fullShare (fin a w b)) -∗ Q ⟨⟩)
        -∗ wp frame (wpE (defs₀ (F := F)) Variants.none c none) E (cc1__finalize_body M0 g0 M1 g1 M2 g2 M3 g3) Q) := by
  rw [cc1__finalize_body_eq_skeleton]
  unfold cc1__finalize_body_skel
  iintro ⟨H0, H1, H2, H3⟩ Hk
  iapply (Owned.load_win Variants.none (c : Thread nD τ) E M0 (off := ![0, 0]) (size := S10808x128.size) inb_S10808x384_S10808x128_0_0 (q := q0) a) $$ H0
  iintro H0
  iapply (Owned.load_win Variants.none (c : Thread nD τ) E M0 (off := ![0, 128]) (size := S10808x128.size) inb_S10808x384_S10808x128_0_128 (q := q0) a) $$ H0
  iintro H0
  iapply (Owned.load_win Variants.none (c : Thread nD τ) E M0 (off := ![0, 256]) (size := S10808x1.size) inb_S10808x384_S10808x1_0_256 (q := q0) a) $$ H0
  iintro H0
  iapply (Owned.load_full Variants.none (c : Thread nD τ) E M1 _ (q := q1) w) $$ H1
  iintro H1
  iapply (Owned.load_full Variants.none (c : Thread nD τ) E M2 _ (q := q2) b) $$ H2
  iintro H2
  iapply (Owned.load_full Variants.none (c : Thread nD τ) E M3 _ (q := fullShare) o) $$ H3
  iintro H3
  iapply (Owned.store_full Variants.none (c : Thread nD τ) E M3 _ o) $$ H3
  iintro H3
  iapply (Owned.done Variants.none (c : Thread nD τ) E Q ⟨⟩)
  iapply Hk
  isplitl [H0]; · iexact H0
  isplitl [H1]; · iexact H1
  isplitl [H2]; · iexact H2
  iexact H3

/-! ## The third kernel's body -/

/-- A flag widened and compared with zero is the flag. -/
theorem flag_eq (b : Bool) : (Scalar.cmpi .ne (Scalar.extui (BitVec.ofBool b)) (0#32) = 1#1) ↔ b = true := by
  cases b <;> decide

/-- A span asks for the small window when it is at most 64 … -/
theorem small_iff (v : BitVec 32) : k2_cond1 v = 1#1 ↔ v.toInt ≤ 64 := by
  refine (flag_eq (v.sle 64#32)).trans ?_
  rw [BitVec.sle_eq_decide, decide_eq_true_iff]
  rfl
/-- … and for the large one when it is more. -/
theorem large_iff (v : BitVec 32) : k2_cond2 v = 1#1 ↔ 64 < v.toInt := by
  refine (flag_eq ((64#32 : BitVec 32).slt v)).trans ?_
  rw [BitVec.slt_eq_decide, decide_eq_true_iff]
  rfl
/-- So a span that does not ask for the small window asks for the large one, -/
theorem large_of_not_small (v : BitVec 32) (h : ¬k2_cond1 v = 1#1) : k2_cond2 v = 1#1 :=
  (large_iff v).2 (not_le.mp fun h' => h ((small_iff v).2 h'))
/-- and one that asks for the small window does not ask for the large one. -/
theorem not_large_of_small (v : BitVec 32) (h : k2_cond1 v = 1#1) : ¬k2_cond2 v = 1#1 := fun h' =>
  absurd ((large_iff v).1 h') (not_lt.mpr ((small_iff v).1 h))

/-- What the third kernel's body leaves in its output block: the rows of `x` scaled and shifted. -/
def normed (base span : Vec F S400 .i32) (H : Fits base span) (i : grid2.Coords)
    (r : Vec F S1x800x1 .i32) (x : Vec F S800x128 .f32) (g : Vec F S10808x256 .f32) : Vec F S800x128 .f32 :=
  if h1 : k2_cond1 (word2 span i) = 1#1 then
    k2_pay2 r (word2 base i) (VecWindow.window g (k2_off3 (word2 base i)) S64x256.size (k2_off3_inb _ _ (H.small2 i) h1)) x
  else
    k2_pay3 r (word2 base i) (VecWindow.window g (k2_off6 (word2 base i)) S808x256.size
      (k2_off6_inb _ _ (H.large2 i) (large_of_not_small _ h1))) x

/-- The third kernel's body at a point: everything it reads unchanged, its output block at `normed`. -/
theorem run2 (c : Dev nD) (E : Set Name) (i : grid2.Coords) (base span : Vec F S400 .i32) (H : Fits base span)
    (M1 : Memref sig .tc .smem S400 .i32) (g1 : M1.IsWhole) (M2 : Memref sig .tc .smem S400 .i32) (g2 : M2.IsWhole)
    (M3 : Memref sig .tc .vmem S1x800x1 .i32) (g3 : M3.IsWhole) (M4 : Memref sig .tc .vmem S800x128 .f32) (g4 : M4.IsWhole)
    (M5 : Memref sig .tc .vmem S10808x256 .f32) (g5 : M5.IsWhole) (M6 : Memref sig .tc .vmem S800x128 .f32) (g6 : M6.IsWhole)
    (r : Vec F S1x800x1 .i32) (x : Vec F S800x128 .f32) (g : Vec F S10808x256 .f32) (o : Vec F S800x128 .f32)
    {q1 q2 q3 q4 q5 : PosShare TreeShare} {Q : PUnit → sProp (MT nD τ sig Ix (Elt F) Name U Lvl)} :
    iprop(owns (c : Thread nD τ) M1 q1 base ∗ owns (c : Thread nD τ) M2 q2 span ∗ owns (c : Thread nD τ) M3 q3 r
        ∗ owns (c : Thread nD τ) M4 q4 x ∗ owns (c : Thread nD τ) M5 q5 g ∗ owns (c : Thread nD τ) M6 fullShare o)
      ⊢ iprop((iprop(owns (c : Thread nD τ) M1 q1 base ∗ owns (c : Thread nD τ) M2 q2 span ∗ owns (c : Thread nD τ) M3 q3 r
          ∗ owns (c : Thread nD τ) M4 q4 x ∗ owns (c : Thread nD τ) M5 q5 g
          ∗ owns (c : Thread nD τ) M6 fullShare (normed base span H i r x g)) -∗ Q ⟨⟩)
        -∗ wp frame (wpE (defs₀ (F := F)) Variants.none c none) E (cc2__norm_body i M1 g1 M2 g2 M3 g3 M4 g4 M5 g5 M6 g6) Q) := by
  rw [cc2__norm_body_eq_skeleton]
  unfold cc2__norm_body_skel
  iintro ⟨H1, H2, H3, H4, H5, H6⟩ Hk
  iapply (Owned.load_full Variants.none (c : Thread nD τ) E M3 _ (q := q3) r) $$ H3
  iintro H3
  iapply (Owned.load_word Variants.none (c : Thread nD τ) E M1 (size := S1.size) (k2_off1_inb i) numel1_S1 rfl (q := q1) base) $$ H1
  iintro H1
  iapply (Owned.load_word Variants.none (c : Thread nD τ) E M2 (size := S1.size) (k2_off1_inb i) numel1_S1 rfl (q := q2) span) $$ H2
  iintro H2
  simp only [Prog.bind_op, Prog.bind_ret]
  by_cases h1 : k2_cond1 (word2 span i) = 1#1
  · have h2 := not_large_of_small _ h1
    rw [dif_pos h1, normed, dif_pos h1]
    iapply (Owned.load_word Variants.none (c : Thread nD τ) E M1 (size := S1.size) (k2_off1_inb i) numel1_S1 rfl (q := q1) base) $$ H1
    iintro H1
    iapply (wp_assume Variants.none (c : Thread nD τ) none E (H.small2 i))
    iapply (Owned.load_win Variants.none (c : Thread nD τ) E M5 (size := S64x256.size) (k2_off3_inb _ _ (H.small2 i) h1) (q := q5) g) $$ H5
    iintro H5
    iapply (Owned.load_full Variants.none (c : Thread nD τ) E M4 _ (q := q4) x) $$ H4
    iintro H4
    iapply (Owned.load_full Variants.none (c : Thread nD τ) E M6 _ (q := fullShare) o) $$ H6
    iintro H6
    iapply (Owned.store_full Variants.none (c : Thread nD τ) E M6 _ o) $$ H6
    iintro H6
    iapply (Owned.load_word Variants.none (c : Thread nD τ) E M2 (size := S1.size) (k2_off1_inb i) numel1_S1 rfl (q := q2) span) $$ H2
    iintro H2
    simp only [Prog.bind_op, Prog.bind_ret]
    rw [dif_neg h2]

    iapply (Owned.done Variants.none (c : Thread nD τ) E Q ⟨⟩)
    iapply Hk
    isplitl [H1]; · iexact H1
    isplitl [H2]; · iexact H2
    isplitl [H3]; · iexact H3
    isplitl [H4]; · iexact H4
    isplitl [H5]; · iexact H5
    iexact H6
  · have h2 := large_of_not_small _ h1
    rw [dif_neg h1, normed, dif_neg h1]
    iapply (Owned.load_word Variants.none (c : Thread nD τ) E M2 (size := S1.size) (k2_off1_inb i) numel1_S1 rfl (q := q2) span) $$ H2
    iintro H2
    simp only [Prog.bind_op, Prog.bind_ret]
    rw [dif_pos h2]
    iapply (Owned.load_word Variants.none (c : Thread nD τ) E M1 (size := S1.size) (k2_off1_inb i) numel1_S1 rfl (q := q1) base) $$ H1
    iintro H1
    iapply (wp_assume Variants.none (c : Thread nD τ) none E (H.large2 i))
    iapply (Owned.load_win Variants.none (c : Thread nD τ) E M5 (size := S808x256.size) (k2_off6_inb _ _ (H.large2 i) h2) (q := q5) g) $$ H5
    iintro H5
    iapply (Owned.load_full Variants.none (c : Thread nD τ) E M4 _ (q := q4) x) $$ H4
    iintro H4
    iapply (Owned.load_full Variants.none (c : Thread nD τ) E M6 _ (q := fullShare) o) $$ H6
    iintro H6
    iapply (Owned.store_full Variants.none (c : Thread nD τ) E M6 _ o) $$ H6
    iintro H6

    iapply (Owned.done Variants.none (c : Thread nD τ) E Q ⟨⟩)
    iapply Hk
    isplitl [H1]; · iexact H1
    isplitl [H2]; · iexact H2
    isplitl [H3]; · iexact H3
    isplitl [H4]; · iexact H4
    isplitl [H5]; · iexact H5
    iexact H6

end Cert.KernelIdeal.Run

end
-- ==== Proof.Regions.lean ====
/-
  The three kernels as regions of the program: from the buffers' contents at entry each region runs its body at
  every grid point, and what its output array holds afterwards is a closed function of what its inputs held.
-/
module

public import proofs.«01_k».proof.Proof.Bodies
public import proofs.«01_k».proof.Proof.Gen.KernelIdeal.Regions
public import Idealize.ShloMosaic.Lib.Pipeline.RegionArraysTS
public import Idealize.ShloMosaic.Lib.Pipeline.TableIdle
public import Idealize.ShloMosaic.Lib.Pipeline.Value

@[expose] public section

set_option maxRecDepth 16384

noncomputable section

namespace Cert.KernelIdeal.Run

open Cert.KernelIdeal Cert.KernelIdeal.Gen
open Cert.Proof
open Idealize.ShloMosaic Idealize.ShloMosaic.TcCoe
open Idealize.SL Idealize.SL.RA
open Idealize.SL.BI (sProp bigSep bigSep_univ_eq_bigSepL)
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕌" => UR sig nD τ
local notation "𝕄" => MT nD τ sig Unit (Elt F) ℕ 𝕌 ℕ

variable (m : (ℓ : Loc nD τ sig) → Buf (Elt F) ℓ)

/-! ## The tables -/

/-- The table of aligned window starts, as the host leaves it. -/
abbrev baseT : Vec F S400 .i32 := V5 m 0 main_v9
/-- The table of window lengths, as the host leaves it. -/
abbrev spanT : Vec F S400 .i32 := V5 m 0 main_v13

/-- The tables the first and the third kernel prefetch. -/
def tabs : (p : Fin 3) → (pcfgs (F := F) p).Adm
  | ⟨0, _⟩ => ⟨fun k => V5 m 0 (Proc.devRef .tc (pre0.ref k)), trivial⟩
  | ⟨1, _⟩ => ⟨fun k => k.elim0, trivial⟩
  | ⟨2, _⟩ => ⟨fun k => V5 m 0 (Proc.devRef .tc (pre2.ref k)), trivial⟩

abbrev pc0 : Cfg sig Λ₀ := Pipeline.pin (pcfgs (F := F)) (tabs m) 0
abbrev pc1 : Cfg sig Λ₀ := Pipeline.pin (pcfgs (F := F)) (tabs m) 1
abbrev pc2 : Cfg sig Λ₀ := Pipeline.pin (pcfgs (F := F)) (tabs m) 2

example : (pc0 m).W = 3 := rfl
example : (pc0 m).N = grid0.N := rfl
example : (pc2 m).N = grid2.N := rfl

/-- The first kernel's arrays at entry. -/
abbrev A0 (c : Dev nD) (w : Fin (pc0 m).W) : Buf (Elt F) (((pc0 m).win w).arr.view.loc (c : Thread nD τ)) := V5 m c (Pipeline.arrRef spec0 w)

/-- The rank block staged at point `t`. -/
def rk0 (c : Dev nD) (t : Fin grid0.N) : Vec F S1x800x1 .i32 :=
  Pipeline.heldIn (pc0 m) (A0 m c) 0 t.val t.isLt
/-- The data block staged at point `t`. -/
def xb0 (c : Dev nD) (t : Fin grid0.N) : Vec F S800x128 .f32 :=
  Pipeline.heldIn (pc0 m) (A0 m c) 1 t.val t.isLt

/-- The sums buffer before point `n`. -/
def acc (H : Fits (baseT m) (spanT m)) (c : Dev nD) : ℕ → Vec F S10808x384 .f32
  | 0 => k0_pay1
  | n + 1 => if h : n < grid0.N then sums (baseT m) (spanT m) H (grid0.coords ⟨n, h⟩) (rk0 m c ⟨n, h⟩) (xb0 m c ⟨n, h⟩) (acc H c n) else acc H c n

variable (H : Fits (baseT m) (spanT m))

/-- One step of the sums. -/
theorem acc_succ (c : Dev nD) (t : Fin grid0.N) :
    acc m H c (t.val + 1) = sums (baseT m) (spanT m) H (grid0.coords t) (rk0 m c t) (xb0 m c t) (acc m H c t.val) :=
  dif_pos t.isLt

/-- The sums start at zero. -/
theorem acc_zero (c : Dev nD) : acc m H c 0 = k0_pay1 := rfl

attribute [irreducible] acc

/-- What each buffer holds after the first kernel. -/
def W6 (c : Dev nD) : Valuation τ sig (Elt F) := Function.update (V5 m c) main_v17 (acc m H c 401)

/-- The first kernel's scoped buffers and tables. -/
abbrev Φ0 (c : Dev nD) : sProp 𝕄 :=
  iprop(Pipeline.scopedRest (Ix := Unit) (Name := ℕ) (U := 𝕌) (Lvl := ℕ) (Val := Elt F) spec0 c
    ∗ owns (c : Thread nD τ) (Memref.whole main_v9) fullShare (baseT m) ∗ owns (c : Thread nD τ) (Memref.whole main_v13) fullShare (spanT m))

/-- The first kernel's data: its arrays at entry, each buffer after each point. -/
def dat0 (c : Dev nD) : Dat τ (Elt F) Unit ℕ 𝕌 ℕ (pc0 m) c where
  A := A0 m c
  after w t := match w with
    | ⟨0, _⟩ => rk0 m c t
    | ⟨1, _⟩ => xb0 m c t
    | ⟨2, _⟩ => acc m H c (t.val + 1)
  Φ _ := Φ0 m c
  q _ := fullShare
  owed _ := 0

/-- The first kernel's block index, in closed form. -/
theorem index0 : ∀ t : Fin grid0.N, cc0_transform_0 (grid0.coords t) 0 = min t.val 399 ∧ cc0_transform_1 (grid0.coords t) 0 = min t.val 399 := by
  decide +kernel

theorem cond0 : ∀ t : Fin grid0.N, (k0_cond1 (grid0.coords t) = 1#1 ↔ t.val = 0) ∧ (k0_cond2 (grid0.coords t) = 1#1 ↔ t.val < 400) := by
  decide +kernel

/-- Every block below the last point is fetched there. -/
theorem fetch0 (t : Fin (pc0 m).N) (h : t.val < 400) : ((pc0 m).win 0).fetch t = true ∧ ((pc0 m).win 1).fetch t = true := by
  have e := index0 t
  constructor
  · rw [Pipeline.Window.fetch_eq_fetchF]
    simp only [Pipeline.Window.fetchF, Bool.and_eq_true, Bool.or_eq_true, decide_eq_true_eq]
    refine ⟨rfl, ?_⟩
    by_cases h0 : t.val = 0
    · exact .inl h0
    have e' := index0 ⟨t.val - 1, Nat.lt_of_le_of_lt (Nat.sub_le _ _) t.isLt⟩
    refine .inr ⟨by omega, (0 : Fin 3), fun q => ?_⟩; have q' := e.1.symm.trans (q.trans e'.1); dsimp only at q'; omega
  · rw [Pipeline.Window.fetch_eq_fetchF]
    simp only [Pipeline.Window.fetchF, Bool.and_eq_true, Bool.or_eq_true, decide_eq_true_eq]
    refine ⟨rfl, ?_⟩
    by_cases h0 : t.val = 0
    · exact .inl h0
    have e' := index0 ⟨t.val - 1, Nat.lt_of_le_of_lt (Nat.sub_le _ _) t.isLt⟩
    refine .inr ⟨by omega, (0 : Fin 2), fun q => ?_⟩; have q' := e.2.symm.trans (q.trans e'.2); dsimp only at q'; omega

/-- Only the last point writes the sums back. -/
theorem flush0 (t : Fin (pc0 m).N) : ((pc0 m).win 2).flush t = decide (t.val = 400) := by
  have hN : (pc0 m).N = 401 := N_0
  unfold Pipeline.Window.flush
  rw [show ((pc0 m).win 2).isOut = true from rfl, Bool.true_and]
  rw [show decide (∃ h : t.val + 1 < (pc0 m).N, ((pc0 m).win 2).index ⟨t.val + 1, h⟩ ≠ ((pc0 m).win 2).index t) = false from
    decide_eq_false (fun ⟨h, e⟩ => e rfl), Bool.or_false]
  exact decide_eq_decide.mpr ⟨fun h => by have : t.val + 1 = (pc0 m).N := h; omega, fun h => by show t.val + 1 = (pc0 m).N; omega⟩

/-- The output is stored at every point below the last. -/
theorem live0 (t : Fin (pc0 m).N) (h : t.val < 400) : (pc0 m).idle 2 ((pc0 m).grid.coords t) = false := by
  have h2 := (cond0 t).2.mpr h
  have key : ∀ v : BitVec 32, ∀ b : Bool, (!b && !(k0_cond2 (grid0.coords t) == 1#1 && k0_cond3 v == 1#1) && !(k0_cond2 (grid0.coords t) == 1#1 && k0_cond4 v == 1#1)) = false := by
    intro v b
    rw [h2]
    by_cases h3 : k2_cond1 v = 1#1
    · rw [show k0_cond3 v = 1#1 from h3]; cases b <;> rfl
    · rw [show k0_cond4 v = 1#1 from large_of_not_small v h3]; cases b <;> cases (k0_cond3 v == 1#1) <;> rfl
  exact key _ _

section General

variable {cfg : Cfg sig Λ₀} {c : Dev nD} (dat : Dat τ (Elt F) Unit ℕ 𝕌 ℕ cfg c)

/-- A window neither fetched nor written back at the point before, where the body stored it, holds what the body left. -/
theorem before_kept (w : Fin cfg.W) (t t' : Fin cfg.N) (ht : t'.val + 1 = t.val) (h : (cfg.win w).fetch t = false) (hf : (cfg.win w).flush t' = false)
    (hi : cfg.idle w (cfg.grid.coords t') = false) (hclip : ∀ a, (cfg.win w).clip (cfg.grid.coords t') a = none) (d) :
    dat.before w t d = dat.after w t' := by
  have e : (⟨t.val - 1, Nat.lt_of_le_of_lt (Nat.sub_le _ _) t.isLt⟩ : Fin cfg.N) = t' := Fin.ext (by show t.val - 1 = _; omega)
  rw [dat.before_of_pos w t (by omega) h d, e, hf, if_neg Bool.false_ne_true]
  unfold Dat.left
  rw [hi]
  show dat.kept w t' d = _
  unfold Dat.kept
  rw [Pipeline.fill_of_clip_none w _ hclip d (dat.after w _), Window.fill_cut]

end General

theorem before0_0 (c : Dev nD) (t : Fin (pc0 m).N) (d) : (dat0 m H c).before 0 t d = rk0 m c t :=
  (dat0 m H c).before_eq_heldIn 0 rfl (fun _ => rfl) (fun _ _ => rfl) (fun _ => rfl) t d

theorem before0_1 (c : Dev nD) (t : Fin (pc0 m).N) (d) : (dat0 m H c).before 1 t d = xb0 m c t :=
  (dat0 m H c).before_eq_heldIn 1 rfl (fun _ => rfl) (fun _ _ => rfl) (fun _ => rfl) t d

/-- After the first point the sums buffer holds what the point before left. -/
theorem before0_2 (c : Dev nD) (t : Fin (pc0 m).N) (h : t.val ≠ 0) (d) : (dat0 m H c).before 2 t d = acc m H c t.val := by
  obtain ⟨n, hn⟩ := t
  cases n with
  | zero => exact absurd rfl h
  | succ n =>
    have hN : (pc0 m).N = 401 := N_0
    have hn' : n < 400 := by omega
    refine (before_kept (dat0 m H c) 2 ⟨n + 1, hn⟩ ⟨n, Nat.lt_of_succ_lt hn⟩ rfl rfl ?_ (live0 m _ hn') (fun _ => rfl) d).trans rfl
    rw [flush0]; exact decide_eq_false (by show ¬n = 400; omega)

/-- At the first point the sums do not depend on what the buffer held. -/
theorem sums_first (t : Fin grid0.N) (h : t.val = 0) (r x a a') :
    sums (baseT m) (spanT m) H (grid0.coords t) r x a = sums (baseT m) (spanT m) H (grid0.coords t) r x a' := by
  have h1 := (cond0 t).1.mpr h
  unfold sums
  rw [if_pos h1, if_pos h1]

/-- The tables a prefetching kernel holds, as its two buffers owned at their contents. -/
theorem tables0 (c : Dev nD) : (Pipeline.tablesAt (Ix := Unit) (Name := ℕ) (U := 𝕌) (Lvl := ℕ) (pcfgs (F := F)) (tabs m) 0 c : sProp 𝕄)
    = iprop(owns (c : Thread nD τ) (Memref.whole main_v9) fullShare (baseT m) ∗ owns (c : Thread nD τ) (Memref.whole main_v13) fullShare (spanT m)) := by
  rw [owns_whole, owns_whole]
  exact bigSep_univ_eq_bigSepL [(0 : Fin 2), (1 : Fin 2)] (by decide) (by decide) _

/-- The first kernel's body obligation. -/
theorem body0 (c : Dev nD) : BodyObligation (dat0 m H c) (defs₀ (F := F)) Variants.none () Set.univ := fun t => by
  rw [bigSep_W0, bigSep_W0]
  have hlast : (match (pc0 m).idle 2 ((pc0 m).grid.coords t) with
      | true => match ((pc0 m).win 2).flush t with
        | false => iprop(∃ d, owns (c : Thread nD τ) (((pc0 m).win 2).stage ((pc0 m).slots t 2)) fullShare ((dat0 m H c).before 2 t d))
        | true => owns (c : Thread nD τ) (((pc0 m).win 2).stage ((pc0 m).slots t 2)) fullShare ((dat0 m H c).after 2 t)
      | false => owns (c : Thread nD τ) (((pc0 m).win 2).stage ((pc0 m).slots t 2)) fullShare ((dat0 m H c).after 2 t) : sProp 𝕄)
      = owns (c : Thread nD τ) (((pc0 m).win 2).stage ((pc0 m).slots t 2)) fullShare ((dat0 m H c).after 2 t) := by
    have hN : (pc0 m).N = 401 := N_0
    have ht := t.isLt
    by_cases h : t.val < 400
    · rw [live0 m t h]
    · rw [flush0 m t, decide_eq_true (by omega : t.val = 400)]
      cases (pc0 m).idle 2 ((pc0 m).grid.coords t) <;> rfl
  show iprop(Φ0 m c ∗ (dat0 m H c).owesAt () t.castSucc
      ∗ (∃ d, owns (c : Thread nD τ) (((pc0 m).win 0).stage ((pc0 m).slots t 0)) fullShare ((dat0 m H c).before 0 t d))
      ∗ (∃ d, owns (c : Thread nD τ) (((pc0 m).win 1).stage ((pc0 m).slots t 1)) fullShare ((dat0 m H c).before 1 t d))
      ∗ (∃ d, owns (c : Thread nD τ) (((pc0 m).win 2).stage ((pc0 m).slots t 2)) fullShare ((dat0 m H c).before 2 t d)))
    ⊢ wp frame (wpE (defs₀ (F := F)) Variants.none c none) Set.univ (defs₀ .tc (pc0 m).body ((pc0 m).bodyArgs t ((pc0 m).slots t))) fun _ =>
      iprop(Φ0 m c ∗ (dat0 m H c).owesAt () t.castSucc
      ∗ owns (c : Thread nD τ) (((pc0 m).win 0).stage ((pc0 m).slots t 0)) fullShare (rk0 m c t)
      ∗ owns (c : Thread nD τ) (((pc0 m).win 1).stage ((pc0 m).slots t 1)) fullShare (xb0 m c t)
      ∗ (match (pc0 m).idle 2 ((pc0 m).grid.coords t) with
      | true => match ((pc0 m).win 2).flush t with
        | false => iprop(∃ d, owns (c : Thread nD τ) (((pc0 m).win 2).stage ((pc0 m).slots t 2)) fullShare ((dat0 m H c).before 2 t d))
        | true => owns (c : Thread nD τ) (((pc0 m).win 2).stage ((pc0 m).slots t 2)) fullShare ((dat0 m H c).after 2 t)
      | false => owns (c : Thread nD τ) (((pc0 m).win 2).stage ((pc0 m).slots t 2)) fullShare ((dat0 m H c).after 2 t)))
  rw [hlast]
  iintro ⟨⟨Hrest, H1, H2⟩, Howes, ⟨%d0, H3⟩, ⟨%d1, H4⟩, ⟨%d2, H5⟩⟩
  rw [before0_0, before0_1]
  have hsum : (dat0 m H c).after 2 t = sums (baseT m) (spanT m) H (grid0.coords t) (rk0 m c t) (xb0 m c t) ((dat0 m H c).before 2 t d2) := by
    refine (acc_succ m H c t).trans ?_
    by_cases h : t.val = 0
    · exact sums_first m H t h _ _ _ _
    · rw [before0_2 m H c t h]
  rw [hsum]
  iapply (run0 (F := F) c Set.univ (grid0.coords t) (baseT m) (spanT m) H (Memref.whole main_v9) (Memref.isWhole_whole _) (Memref.whole main_v13) (Memref.isWhole_whole _)
    (spec0_0.stage ((pc0 m).slots t 0)) (hstage0_0 (((pc0 m).slots t 0).cast nbuf0_0)) (spec0_1.stage ((pc0 m).slots t 1)) (hstage0_1 (((pc0 m).slots t 1).cast nbuf0_1))
    (spec0_2.stage ((pc0 m).slots t 2)) (hstage0_2 (((pc0 m).slots t 2).cast nbuf0_2)) (rk0 m c t) (xb0 m c t) ((dat0 m H c).before 2 t d2)) $$ [H1 H2 H3 H4 H5]
  · isplitl [H1]; · iexact H1
    isplitl [H2]; · iexact H2
    isplitl [H3]; · iexact H3
    isplitl [H4]; · iexact H4
    iexact H5
  iintro ⟨H1, H2, H3, H4, H5⟩
  isplitl [Hrest H1 H2]
  · isplitl [Hrest]; · iexact Hrest
    isplitl [H1]; · iexact H1
    iexact H2
  isplitl [Howes]; · iexact Howes
  isplitl [H3]; · iexact H3
  isplitl [H4]; · iexact H4
  iexact H5

/-! ## The second kernel -/

/-- What each buffer holds after the second kernel. -/
def W7 (c : Dev nD) : Valuation τ sig (Elt F) :=
  Function.update (W6 m H c) main_v18 (fin (F := F) (W6 m H c main_v17) (W6 m H c main_v15) (W6 m H c main_v16))

/-- The second kernel's data. -/
def dat1 (c : Dev nD) : Dat τ (Elt F) Unit ℕ 𝕌 ℕ (pc1 m) c where
  A w := W6 m H c (Pipeline.arrRef spec1 w)
  after w t := match w with
    | ⟨0, _⟩ => (W6 m H c main_v17 : Vec F S10808x384 .f32)
    | ⟨1, _⟩ => (W6 m H c main_v15 : Vec F S1x128 .f32)
    | ⟨2, _⟩ => (W6 m H c main_v16 : Vec F S1x128 .f32)
    | ⟨3, _⟩ => fin (F := F) (W6 m H c main_v17) (W6 m H c main_v15) (W6 m H c main_v16)
  Φ _ := Pipeline.scopedRest (Ix := Unit) (Name := ℕ) (U := 𝕌) (Lvl := ℕ) (Val := Elt F) spec1 c
  q _ := fullShare
  owed _ := 0

/-- A whole-array window's block is the array. -/
theorem whole_read (b : Ref sig .tc) (off : Fin b.ty.shape.rank → ℕ) (hz : off = fun _ => 0) (inb : ∀ a, off a + b.ty.shape.size a ≤ b.ty.shape.size a)
    (f : b.ty.Contents (Elt F)) : (((Memref.whole b).access (Rect.unit off b.ty.shape.size inb) : View sig .tc _ _ _)).read (Elt F) f = f :=
  Memref.read_access_unit_zero (Elt F) b hz inb f

theorem blk1_0 (t : Fin grid1.N) (f : main_v17.ty.Contents (Elt F)) : (win1_0.blk t).view.read (Elt F) f = f :=
  Memref.read_access_unit_zero (Elt F) main_v17 (funext fun a => by fin_cases a <;> exact Nat.zero_mul _) _ f
theorem blk1_1 (t : Fin grid1.N) (f : main_v15.ty.Contents (Elt F)) : (win1_1.blk t).view.read (Elt F) f = f :=
  Memref.read_access_unit_zero (Elt F) main_v15 (funext fun a => by fin_cases a <;> exact Nat.zero_mul _) _ f
theorem blk1_2 (t : Fin grid1.N) (f : main_v16.ty.Contents (Elt F)) : (win1_2.blk t).view.read (Elt F) f = f :=
  Memref.read_access_unit_zero (Elt F) main_v16 (funext fun a => by fin_cases a <;> exact Nat.zero_mul _) _ f
theorem blk1_3 (t : Fin grid1.N) (f : main_v18.ty.Contents (Elt F)) : (win1_3.blk t).view.read (Elt F) f = f :=
  Memref.read_access_unit_zero (Elt F) main_v18 (funext fun a => by fin_cases a <;> exact Nat.zero_mul _) _ f

theorem before1_0 (c : Dev nD) (t : Fin (pc1 m).N) (d) : (dat1 m H c).before 0 t d = (W6 m H c main_v17 : Vec F S10808x384 .f32) := by
  rw [(dat1 m H c).before_fetched 0 t (by obtain rfl := fin_N1 t; rfl) d]
  exact blk1_0 (F := F) t (W6 m H c main_v17)
theorem before1_1 (c : Dev nD) (t : Fin (pc1 m).N) (d) : (dat1 m H c).before 1 t d = (W6 m H c main_v15 : Vec F S1x128 .f32) := by
  rw [(dat1 m H c).before_fetched 1 t (by obtain rfl := fin_N1 t; rfl) d]
  exact blk1_1 (F := F) t (W6 m H c main_v15)
theorem before1_2 (c : Dev nD) (t : Fin (pc1 m).N) (d) : (dat1 m H c).before 2 t d = (W6 m H c main_v16 : Vec F S1x128 .f32) := by
  rw [(dat1 m H c).before_fetched 2 t (by obtain rfl := fin_N1 t; rfl) d]
  exact blk1_2 (F := F) t (W6 m H c main_v16)

/-- The second kernel's body obligation. -/
theorem body1 (c : Dev nD) : BodyObligation (dat1 m H c) (defs₀ (F := F)) Variants.none () Set.univ := fun t => by
  rw [bigSep_W1, bigSep_W1]
  show iprop((dat1 m H c).Φ t.castSucc ∗ (dat1 m H c).owesAt () t.castSucc
      ∗ (∃ d, owns (c : Thread nD τ) (((pc1 m).win 0).stage ((pc1 m).slots t 0)) fullShare ((dat1 m H c).before 0 t d))
      ∗ (∃ d, owns (c : Thread nD τ) (((pc1 m).win 1).stage ((pc1 m).slots t 1)) fullShare ((dat1 m H c).before 1 t d))
      ∗ (∃ d, owns (c : Thread nD τ) (((pc1 m).win 2).stage ((pc1 m).slots t 2)) fullShare ((dat1 m H c).before 2 t d))
      ∗ (∃ d, owns (c : Thread nD τ) (((pc1 m).win 3).stage ((pc1 m).slots t 3)) fullShare ((dat1 m H c).before 3 t d)))
    ⊢ wp frame (wpE (defs₀ (F := F)) Variants.none c none) Set.univ (defs₀ .tc (pc1 m).body ((pc1 m).bodyArgs t ((pc1 m).slots t))) fun _ =>
      iprop((dat1 m H c).Φ t.castSucc ∗ (dat1 m H c).owesAt () t.castSucc
      ∗ owns (c : Thread nD τ) (((pc1 m).win 0).stage ((pc1 m).slots t 0)) fullShare ((dat1 m H c).after 0 t)
      ∗ owns (c : Thread nD τ) (((pc1 m).win 1).stage ((pc1 m).slots t 1)) fullShare ((dat1 m H c).after 1 t)
      ∗ owns (c : Thread nD τ) (((pc1 m).win 2).stage ((pc1 m).slots t 2)) fullShare ((dat1 m H c).after 2 t)
      ∗ owns (c : Thread nD τ) (((pc1 m).win 3).stage ((pc1 m).slots t 3)) fullShare ((dat1 m H c).after 3 t))
  iintro ⟨HΦ, Howes, ⟨%d0, H0⟩, ⟨%d1, H1⟩, ⟨%d2, H2⟩, ⟨%d3, H3⟩⟩
  rw [before1_0, before1_1, before1_2]
  iapply (run1 (F := F) c Set.univ (win1_0.stage ((pc1 m).slots t 0)) (hstage1_0 0) (win1_1.stage ((pc1 m).slots t 1)) (hstage1_1 0)
    (win1_2.stage ((pc1 m).slots t 2)) (hstage1_2 0) (win1_3.stage ((pc1 m).slots t 3)) (hstage1_3 0)
    (W6 m H c main_v17) (W6 m H c main_v15) (W6 m H c main_v16) ((dat1 m H c).before 3 t d3)) $$ [H0 H1 H2 H3]
  · isplitl [H0]; · iexact H0
    isplitl [H1]; · iexact H1
    isplitl [H2]; · iexact H2
    iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-! ## The third kernel -/

/-- The third kernel's arrays at entry. -/
abbrev A2 (c : Dev nD) (w : Fin (pc2 m).W) : Buf (Elt F) (((pc2 m).win w).arr.view.loc (c : Thread nD τ)) := W7 m H c (Pipeline.arrRef spec2 w)

/-- The rank block staged at point `t`. -/
def rk2 (c : Dev nD) (t : Fin grid2.N) : Vec F S1x800x1 .i32 := Pipeline.heldIn (pc2 m) (A2 m H c) 0 t.val t.isLt
/-- The data block staged at point `t`. -/
def xb2 (c : Dev nD) (t : Fin grid2.N) : Vec F S800x128 .f32 := Pipeline.heldIn (pc2 m) (A2 m H c) 1 t.val t.isLt
/-- The scale and shift array staged at point `t`. -/
def fn2 (c : Dev nD) (t : Fin grid2.N) : Vec F S10808x256 .f32 := Pipeline.heldIn (pc2 m) (A2 m H c) 2 t.val t.isLt

/-- The third kernel's scoped buffers and tables. -/
abbrev Φ2 (c : Dev nD) : sProp 𝕄 :=
  iprop(Pipeline.scopedRest (Ix := Unit) (Name := ℕ) (U := 𝕌) (Lvl := ℕ) (Val := Elt F) spec2 c
    ∗ owns (c : Thread nD τ) (Memref.whole main_v9) fullShare (baseT m) ∗ owns (c : Thread nD τ) (Memref.whole main_v13) fullShare (spanT m))

/-- What the third kernel leaves in its output block at point `t`. -/
def nb2 (c : Dev nD) (t : Fin grid2.N) : Vec F S800x128 .f32 :=
  normed (baseT m) (spanT m) H (grid2.coords t) (rk2 m H c t) (xb2 m H c t) (fn2 m H c t)

/-- The third kernel's data. -/
def dat2 (c : Dev nD) : Dat τ (Elt F) Unit ℕ 𝕌 ℕ (pc2 m) c where
  A := A2 m H c
  after w t := match w with
    | ⟨0, _⟩ => rk2 m H c t
    | ⟨1, _⟩ => xb2 m H c t
    | ⟨2, _⟩ => fn2 m H c t
    | ⟨3, _⟩ => nb2 m H c t
  Φ _ := Φ2 m c
  q _ := fullShare
  owed _ := 0

theorem after2_3 (c : Dev nD) (t : Fin (pc2 m).N) : (dat2 m H c).after 3 t = nb2 m H c t := by
  dsimp only [dat2]
  rfl

theorem before2_0 (c : Dev nD) (t : Fin (pc2 m).N) (d) : (dat2 m H c).before 0 t d = rk2 m H c t :=
  (dat2 m H c).before_eq_heldIn 0 rfl (fun _ => rfl) (fun _ _ => rfl) (fun _ => rfl) t d
theorem before2_1 (c : Dev nD) (t : Fin (pc2 m).N) (d) : (dat2 m H c).before 1 t d = xb2 m H c t :=
  (dat2 m H c).before_eq_heldIn 1 rfl (fun _ => rfl) (fun _ _ => rfl) (fun _ => rfl) t d
theorem before2_2 (c : Dev nD) (t : Fin (pc2 m).N) (d) : (dat2 m H c).before 2 t d = fn2 m H c t :=
  (dat2 m H c).before_eq_heldIn 2 rfl (fun _ => rfl) (fun _ _ => rfl) (fun _ => rfl) t d

/-- The output block is stored at every point. -/
theorem live2 (i : (pc2 m).grid.Coords) : (pc2 m).idle 3 i = false := by
  have key : ∀ v : BitVec 32, (!(k2_cond1 v == 1#1) && !(k2_cond2 v == 1#1)) = false := by
    intro v
    by_cases h3 : k2_cond1 v = 1#1
    · rw [h3]; rfl
    · rw [large_of_not_small v h3]; cases (k2_cond1 v == 1#1) <;> rfl
  exact key _

/-- The third kernel's body obligation. -/
theorem body2 (c : Dev nD) : BodyObligation (dat2 m H c) (defs₀ (F := F)) Variants.none () Set.univ := fun t => by
  rw [bigSep_W2, bigSep_W2]
  have hlast : (match (pc2 m).idle 3 ((pc2 m).grid.coords t) with
      | true => match ((pc2 m).win 3).flush t with
        | false => iprop(∃ d, owns (c : Thread nD τ) (((pc2 m).win 3).stage ((pc2 m).slots t 3)) fullShare ((dat2 m H c).before 3 t d))
        | true => owns (c : Thread nD τ) (((pc2 m).win 3).stage ((pc2 m).slots t 3)) fullShare ((dat2 m H c).after 3 t)
      | false => owns (c : Thread nD τ) (((pc2 m).win 3).stage ((pc2 m).slots t 3)) fullShare ((dat2 m H c).after 3 t) : sProp 𝕄)
      = owns (c : Thread nD τ) (((pc2 m).win 3).stage ((pc2 m).slots t 3)) fullShare ((dat2 m H c).after 3 t) := by
    rw [live2 m _]
  show iprop(Φ2 m c ∗ (dat2 m H c).owesAt () t.castSucc
      ∗ (∃ d, owns (c : Thread nD τ) (((pc2 m).win 0).stage ((pc2 m).slots t 0)) fullShare ((dat2 m H c).before 0 t d))
      ∗ (∃ d, owns (c : Thread nD τ) (((pc2 m).win 1).stage ((pc2 m).slots t 1)) fullShare ((dat2 m H c).before 1 t d))
      ∗ (∃ d, owns (c : Thread nD τ) (((pc2 m).win 2).stage ((pc2 m).slots t 2)) fullShare ((dat2 m H c).before 2 t d))
      ∗ (∃ d, owns (c : Thread nD τ) (((pc2 m).win 3).stage ((pc2 m).slots t 3)) fullShare ((dat2 m H c).before 3 t d)))
    ⊢ wp frame (wpE (defs₀ (F := F)) Variants.none c none) Set.univ (defs₀ .tc (pc2 m).body ((pc2 m).bodyArgs t ((pc2 m).slots t))) fun _ =>
      iprop(Φ2 m c ∗ (dat2 m H c).owesAt () t.castSucc
      ∗ owns (c : Thread nD τ) (((pc2 m).win 0).stage ((pc2 m).slots t 0)) fullShare (rk2 m H c t)
      ∗ owns (c : Thread nD τ) (((pc2 m).win 1).stage ((pc2 m).slots t 1)) fullShare (xb2 m H c t)
      ∗ owns (c : Thread nD τ) (((pc2 m).win 2).stage ((pc2 m).slots t 2)) fullShare (fn2 m H c t)
      ∗ (match (pc2 m).idle 3 ((pc2 m).grid.coords t) with
      | true => match ((pc2 m).win 3).flush t with
        | false => iprop(∃ d, owns (c : Thread nD τ) (((pc2 m).win 3).stage ((pc2 m).slots t 3)) fullShare ((dat2 m H c).before 3 t d))
        | true => owns (c : Thread nD τ) (((pc2 m).win 3).stage ((pc2 m).slots t 3)) fullShare ((dat2 m H c).after 3 t)
      | false => owns (c : Thread nD τ) (((pc2 m).win 3).stage ((pc2 m).slots t 3)) fullShare ((dat2 m H c).after 3 t)))
  rw [hlast]
  iintro ⟨⟨Hrest, H1, H2⟩, Howes, ⟨%d0, H3⟩, ⟨%d1, H4⟩, ⟨%d2, H5⟩, ⟨%d3, H6⟩⟩
  rw [before2_0, before2_1, before2_2]
  have hout := after2_3 m H c t
  rw [hout]
  unfold nb2
  iapply (run2 (F := F) c Set.univ (grid2.coords t) (baseT m) (spanT m) H (Memref.whole main_v9) (Memref.isWhole_whole _) (Memref.whole main_v13) (Memref.isWhole_whole _)
    (spec2_0.stage ((pc2 m).slots t 0)) (hstage2_0 (((pc2 m).slots t 0).cast nbuf2_0)) (spec2_1.stage ((pc2 m).slots t 1)) (hstage2_1 (((pc2 m).slots t 1).cast nbuf2_1))
    (spec2_2.stage ((pc2 m).slots t 2)) (hstage2_2 (((pc2 m).slots t 2).cast nbuf2_2)) (spec2_3.stage ((pc2 m).slots t 3)) (hstage2_3 (((pc2 m).slots t 3).cast nbuf2_3))
    (rk2 m H c t) (xb2 m H c t) (fn2 m H c t) ((dat2 m H c).before 3 t d3)) $$ [H1 H2 H3 H4 H5 H6]
  · isplitl [H1]; · iexact H1
    isplitl [H2]; · iexact H2
    isplitl [H3]; · iexact H3
    isplitl [H4]; · iexact H4
    isplitl [H5]; · iexact H5
    iexact H6
  iintro ⟨H1, H2, H3, H4, H5, H6⟩
  isplitl [Hrest H1 H2]
  · isplitl [Hrest]; · iexact Hrest
    isplitl [H1]; · iexact H1
    iexact H2
  isplitl [Howes]; · iexact Howes
  isplitl [H3]; · iexact H3
  isplitl [H4]; · iexact H4
  isplitl [H5]; · iexact H5
  iexact H6

end Cert.KernelIdeal.Run
end
-- ==== Proof.Finals.lean ====
/-
  What the three kernels' output arrays hold at the end of each region: the running sums after the last point, the
  scales and shifts, and the normalised rows, block by block.
-/
module

public import proofs.«01_k».proof.Proof.Regions

@[expose] public section

set_option maxRecDepth 16384

noncomputable section

namespace Cert.KernelIdeal.Run

open Cert.KernelIdeal Cert.KernelIdeal.Gen
open Cert.Proof
open Idealize.ShloMosaic Idealize.ShloMosaic.TcCoe
open Idealize.SL Idealize.SL.RA
open Idealize.SL.BI (sProp bigSep bigSep_univ_eq_bigSepL)
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕌" => UR sig nD τ
local notation "𝕄" => MT nD τ sig Unit (Elt F) ℕ 𝕌 ℕ

variable (m : (ℓ : Loc nD τ sig) → Buf (Elt F) ℓ)
variable (H : Fits (baseT m) (spanT m))

/-- A block at offset zero and of the array's own size reaches every place. -/
theorem covers (b : Ref sig .tc) (off : Fin b.ty.shape.rank → ℕ) (hz : off = fun _ => 0) (inb : ∀ a, off a + b.ty.shape.size a ≤ b.ty.shape.size a)
    (i : b.ty.Idx) : i ∈ ((View.whole b).slice (Rect.unit off b.ty.shape.size inb)).set := by
  rw [View.set_slice_whole]
  exact View.mem_set_unit_zero hz _ i

/-- A block reaches every place within its bounds. -/
theorem covers_block (b : Ref sig .tc) (off size : Fin b.ty.shape.rank → ℕ) (inb : ∀ a, off a + size a ≤ b.ty.shape.size a)
    (i : b.ty.Idx) (h : ∀ a, off a ≤ i a ∧ (i a : ℕ) < off a + size a) : i ∈ ((View.whole b).slice (Rect.unit off size inb)).set := by
  rw [View.set_slice_whole]
  exact Rect.mem_set_unit.mpr h

/-- The sums' block is the whole array. -/
theorem blk0_2 (t : Fin (pc0 m).N) (f : main_v17.ty.Contents (Elt F)) : (((pc0 m).win 2).blk t).view.read (Elt F) f = f :=
  Memref.read_access_unit_zero (Elt F) main_v17 (funext fun a => by fin_cases a <;> exact Nat.zero_mul _) _ f

theorem after0_2 (c : Dev nD) (t : Fin (pc0 m).N) : (dat0 m H c).after 2 t = acc m H c (t.val + 1) := by
  dsimp only [dat0]
  rfl

/-- The sums array ends at the sums after the last point. -/
theorem final0 (c : Dev nD) : (dat0 m H c).arrAt 2 (pc0 m).N = acc m H c 401 := by
  have hN : (pc0 m).N = 401 := N_0
  refine (dat0 m H c).arrAt_eq_of_cover 2 (acc m H c 401) (fun t hf => ?_) (fun i => ?_)
  · rw [blk0_2]
    rw [flush0, decide_eq_true_eq] at hf
    refine Eq.trans (b := (dat0 m H c).after 2 t) rfl ?_
    rw [after0_2, hf]
  · exact ⟨⟨400, by omega⟩, by rw [flush0]; rfl, covers main_v17 _ (funext fun a => by fin_cases a <;> exact Nat.zero_mul _) _ i⟩

/-- The second kernel's output block is the whole array. -/
theorem final1 (c : Dev nD) : (dat1 m H c).arrAt 3 (pc1 m).N
    = fin (W6 m H c main_v17) (W6 m H c main_v15) (W6 m H c main_v16) := by
  have hN : (pc1 m).N = 1 := N_1
  refine (dat1 m H c).arrAt_eq_of_cover 3 _ (fun t hf => ?_) (fun i => ?_)
  · exact (blk1_3 t (fin (W6 m H c main_v17) (W6 m H c main_v15) (W6 m H c main_v16))).symm
  · exact ⟨⟨0, by omega⟩, by rfl, covers main_v18 _ (funext fun a => by fin_cases a <;> exact Nat.zero_mul _) _ i⟩

/-- The third kernel's block index, in closed form. -/
theorem index2 : ∀ t : Fin grid2.N, cc2_transform_0 (grid2.coords t) 0 = t.val ∧ cc2_transform_1 (grid2.coords t) 0 = t.val
    ∧ cc2_transform_3 (grid2.coords t) 0 = t.val := by
  decide +kernel

/-- Every output block is written back at its own point. -/
theorem flush2 (t : Fin (pc2 m).N) : ((pc2 m).win 3).flush t = true := by
  rw [Pipeline.Window.flush_eq_flushF]
  simp only [Pipeline.Window.flushF, Bool.and_eq_true, Bool.or_eq_true, decide_eq_true_eq]
  refine ⟨rfl, ?_⟩
  by_cases h : t.val + 1 < (pc2 m).N
  · refine .inr ⟨h, (0 : Fin 2), fun q => ?_⟩
    have e := (index2 t).2.2
    have e' := (index2 ⟨t.val + 1, h⟩).2.2
    have q' := e'.symm.trans (q.trans e); dsimp only at q'; omega
  · exact .inl (by have h' : t.val < (pc2 m).N := t.isLt; show t.val + 1 = (pc2 m).N; omega)

/-- The position of row `r`, column `k` in a block of 800 rows. -/
def inBlock (i : S320000x128.Idx) : S800x128.Idx := fun a => match a with
  | ⟨0, _⟩ => ⟨(i 0).val % 800, Nat.mod_lt _ (by decide)⟩
  | ⟨1, _⟩ => ⟨(i 1).val, (i 1).isLt⟩

/-- The block a row of the output lies in. -/
def blockOf (i : S320000x128.Idx) : Fin grid2.N :=
  ⟨(i 0).val / 800, by rw [show grid2.N = 400 from N_2]; have : (i 0).val < 320000 := (i 0).isLt; omega⟩

/-- The third kernel's output array: every row from its own block. -/
def outv (c : Dev nD) : Vec F S320000x128 .f32 := fun i => nb2 m H c (blockOf i) (inBlock i)

/-- The row of the data that row `r` of block `t` is. -/
def row (t : ℕ) (ht : t < 400) (j : S800x128.Idx) : S320000x128.Idx := fun a => match a with
  | ⟨0, _⟩ => ⟨t * 800 + (j 0).val, by have : (j 0).val < 800 := (j 0).isLt; show _ < 320000; omega⟩
  | ⟨1, _⟩ => ⟨(j 1).val, (j 1).isLt⟩

/-- The place of the ranks that place `j` of block `t` is. -/
def place (t : ℕ) (ht : t < 400) (j : S1x800x1.Idx) : S400x800x1.Idx := fun a => match a with
  | ⟨0, _⟩ => ⟨t, ht⟩
  | ⟨1, _⟩ => ⟨(j 1).val, (j 1).isLt⟩
  | ⟨2, _⟩ => ⟨(j 2).val, (j 2).isLt⟩

theorem lt0 (t : Fin grid2.N) : t.val < 400 := t.isLt.trans_eq N_2

/-- Block `t` of a tall array, read. -/
theorem read2_3 (t : Fin grid2.N) (f : Vec F S320000x128 .f32) :
    (((pc2 m).win 3).blk t).view.read (Elt F) f = fun j : S800x128.Idx => f (row t.val (lt0 t) j) :=
  funext fun (j : S800x128.Idx) => (View.read_apply _ _).trans (congrArg f (funext fun a => Fin.ext (by
    have e := (index2 t).2.2
    match a with
    | ⟨0, _⟩ =>
      show cc2_transform_3 (grid2.coords t) 0 * 800 + 1 * (j 0).val = t.val * 800 + (j 0).val
      rw [e, Nat.one_mul]
    | ⟨1, _⟩ =>
      show 0 * 128 + 1 * (j 1).val = (j 1).val
      omega)))

/-- Every place of the output lies in the block of its row. -/
theorem covered2 (i : S320000x128.Idx) : i ∈ ((((pc2 m).win 3).blk (blockOf i)).view.set : Finset S320000x128.Idx) := by
  refine covers_block main_v19 (fun a => cc2_transform_3 (grid2.coords (blockOf i)) a * S800x128.size a) S800x128.size _ i fun a => ?_
  have e := (index2 (blockOf i)).2.2
  have h0 : (i 0 : Nat) < 320000 := (i 0).isLt
  have h1 : (i 1 : Nat) < 128 := (i 1).isLt
  have hb : (blockOf i).val = (i 0).val / 800 := rfl
  match a with
  | ⟨0, _⟩ =>
    show cc2_transform_3 (grid2.coords (blockOf i)) 0 * 800 ≤ (i 0 : Nat) ∧ (i 0 : Nat) < cc2_transform_3 (grid2.coords (blockOf i)) 0 * 800 + 800
    rw [e, hb]; omega
  | ⟨1, _⟩ =>
    show 0 * 128 ≤ (i 1 : Nat) ∧ (i 1 : Nat) < 0 * 128 + 128
    omega

theorem row_outv (c : Dev nD) (t : Fin grid2.N) : (fun j => outv m H c (row t.val (lt0 t) j)) = nb2 m H c t := by
  funext j
  have h0 : (j 0 : Nat) < 800 := (j 0).isLt
  have hb : blockOf (row t.val (lt0 t) j) = t := Fin.ext (by show (t.val * 800 + (j 0).val) / 800 = t.val; omega)
  have hj : inBlock (row t.val (lt0 t) j) = j := funext fun a => Fin.ext (by
    match a with
    | ⟨0, _⟩ => show (t.val * 800 + (j 0).val) % 800 = (j 0).val; omega
    | ⟨1, _⟩ => rfl)
  unfold outv
  rw [hb, hj]

theorem cut2_3 (t : Fin (pc2 m).N) (f : Vec F S800x128 .f32) : ((pc2 m).win 3).cut ((pc2 m).grid.coords t) f = f := rfl

theorem flushed2 (c : Dev nD) (t : Fin (pc2 m).N) : (dat2 m H c).flushed 3 t = nb2 m H c t := by
  unfold Pipeline.Dat.flushed
  rw [after2_3]
  exact cut2_3 m t _

/-- The output array ends at the normalised rows. -/
theorem final2 (c : Dev nD) : (dat2 m H c).arrAt 3 (pc2 m).N = outv m H c := by
  refine (dat2 m H c).arrAt_eq_of_cover 3 (outv m H c) (fun t hf => ?_) (fun i => ⟨blockOf i, flush2 m _, ?_⟩)
  · exact (flushed2 m H c t).trans ((read2_3 m t (outv m H c)).trans (row_outv m H c t)).symm
  · exact covered2 m i

/-! ## What the staged blocks hold -/

/-- A block read whole is the part of the array it covers. -/
theorem filled (cfg : Cfg sig Λ₀) (w : Fin cfg.W) (i : cfg.grid.Coords) (h : ∀ a, (cfg.win w).clip i a = none) {α : Type}
    (d g : (cfg.win w).block.Idx → α) : (cfg.win w).fill i d ((cfg.win w).cut i g) = g :=
  (Pipeline.fill_of_clip_none w i h d g _).trans (Pipeline.Window.fill_cut _ _ _)

theorem rk0_apply (c : Dev nD) (t : Fin grid0.N) (ht : t.val < 400) (j : S1x800x1.Idx) :
    rk0 m c t j = V5 m c main_v14 (place t.val ht j) := by
  refine (congrFun ((Pipeline.heldIn_of_fetch (A0 m c) 0 t (fetch0 m t ht).1).trans (filled (pc0 m) 0 _ (fun _ => rfl) _ _)) j).trans ?_
  refine (View.read_apply _ _).trans (congrArg (V5 m c main_v14) (funext fun a => Fin.ext ?_))
  have e := (index0 t).1
  have h0 : (j 0 : Nat) < 1 := (j 0).isLt
  match a with
  | ⟨0, _⟩ =>
    show cc0_transform_0 (grid0.coords t) 0 * 1 + 1 * (j 0).val = t.val
    rw [e]; omega
  | ⟨1, _⟩ => show 0 * 800 + 1 * (j 1).val = (j 1).val; omega
  | ⟨2, _⟩ => show 0 * 1 + 1 * (j 2).val = (j 2).val; omega

theorem xb0_apply (c : Dev nD) (t : Fin grid0.N) (ht : t.val < 400) (j : S800x128.Idx) :
    xb0 m c t j = V5 m c main_arg0 (row t.val ht j) := by
  refine (congrFun ((Pipeline.heldIn_of_fetch (A0 m c) 1 t (fetch0 m t ht).2).trans (filled (pc0 m) 1 _ (fun _ => rfl) _ _)) j).trans ?_
  refine (View.read_apply _ _).trans (congrArg (V5 m c main_arg0) (funext fun a => Fin.ext ?_))
  have e := (index0 t).2
  match a with
  | ⟨0, _⟩ =>
    show cc0_transform_1 (grid0.coords t) 0 * 800 + 1 * (j 0).val = t.val * 800 + (j 0).val
    rw [e]; omega
  | ⟨1, _⟩ => show 0 * 128 + 1 * (j 1).val = (j 1).val; omega

/-- Every rank block and data block of the third kernel is fetched at its own point. -/
theorem fetch2 (t : Fin (pc2 m).N) : ((pc2 m).win 0).fetch t = true ∧ ((pc2 m).win 1).fetch t = true := by
  have e := index2 t
  constructor
  · rw [Pipeline.Window.fetch_eq_fetchF]
    simp only [Pipeline.Window.fetchF, Bool.and_eq_true, Bool.or_eq_true, decide_eq_true_eq]
    refine ⟨rfl, ?_⟩
    by_cases h0 : t.val = 0
    · exact .inl h0
    have e' := index2 ⟨t.val - 1, Nat.lt_of_le_of_lt (Nat.sub_le _ _) t.isLt⟩
    refine .inr ⟨by omega, (0 : Fin 3), fun q => ?_⟩; have q' := e.1.symm.trans (q.trans e'.1); dsimp only at q'; omega
  · rw [Pipeline.Window.fetch_eq_fetchF]
    simp only [Pipeline.Window.fetchF, Bool.and_eq_true, Bool.or_eq_true, decide_eq_true_eq]
    refine ⟨rfl, ?_⟩
    by_cases h0 : t.val = 0
    · exact .inl h0
    have e' := index2 ⟨t.val - 1, Nat.lt_of_le_of_lt (Nat.sub_le _ _) t.isLt⟩
    refine .inr ⟨by omega, (0 : Fin 2), fun q => ?_⟩; have q' := e.2.1.symm.trans (q.trans e'.2.1); dsimp only at q'; omega

theorem rk2_apply (c : Dev nD) (t : Fin grid2.N) (j : S1x800x1.Idx) :
    rk2 m H c t j = W7 m H c main_v14 (place t.val (lt0 t) j) := by
  refine (congrFun ((Pipeline.heldIn_of_fetch (A2 m H c) 0 t (fetch2 m t).1).trans (filled (pc2 m) 0 _ (fun _ => rfl) _ _)) j).trans ?_
  refine (View.read_apply _ _).trans (congrArg (W7 m H c main_v14) (funext fun a => Fin.ext ?_))
  have e := (index2 t).1
  have h0 : (j 0 : Nat) < 1 := (j 0).isLt
  match a with
  | ⟨0, _⟩ =>
    show cc2_transform_0 (grid2.coords t) 0 * 1 + 1 * (j 0).val = t.val
    rw [e]; omega
  | ⟨1, _⟩ => show 0 * 800 + 1 * (j 1).val = (j 1).val; omega
  | ⟨2, _⟩ => show 0 * 1 + 1 * (j 2).val = (j 2).val; omega

theorem xb2_apply (c : Dev nD) (t : Fin grid2.N) (j : S800x128.Idx) :
    xb2 m H c t j = W7 m H c main_arg0 (row t.val (lt0 t) j) := by
  refine (congrFun ((Pipeline.heldIn_of_fetch (A2 m H c) 1 t (fetch2 m t).2).trans (filled (pc2 m) 1 _ (fun _ => rfl) _ _)) j).trans ?_
  refine (View.read_apply _ _).trans (congrArg (W7 m H c main_arg0) (funext fun a => Fin.ext ?_))
  have e := (index2 t).2.1
  match a with
  | ⟨0, _⟩ =>
    show cc2_transform_1 (grid2.coords t) 0 * 800 + 1 * (j 0).val = t.val * 800 + (j 0).val
    rw [e]; omega
  | ⟨1, _⟩ => show 0 * 128 + 1 * (j 1).val = (j 1).val; omega

theorem blk2_2 (t : Fin (pc2 m).N) (f : main_v18.ty.Contents (Elt F)) : (((pc2 m).win 2).blk t).view.read (Elt F) f = f :=
  Memref.read_access_unit_zero (Elt F) main_v18 (funext fun a => by fin_cases a <;> exact Nat.zero_mul _) _ f

/-- The scales and shifts stay in place over the third kernel. -/
theorem fn2_eq (c : Dev nD) (t : Fin grid2.N) : fn2 m H c t = W7 m H c main_v18 := by
  unfold fn2
  obtain ⟨n, hn⟩ := t
  induction n with
  | zero =>
    refine (Pipeline.heldIn_of_fetch (A2 m H c) 2 ⟨0, hn⟩ (((pc2 m).win 2).fetch_in rfl _ |>.mpr (.inl rfl))).trans ((filled (pc2 m) 2 _ (fun _ => rfl) _ _).trans (blk2_2 m _ _))
  | succ n ih =>
    cases hf : ((pc2 m).win 2).fetch ⟨n + 1, hn⟩ with
    | true => exact (Pipeline.heldIn_of_fetch (A2 m H c) 2 ⟨n + 1, hn⟩ hf).trans ((filled (pc2 m) 2 _ (fun _ => rfl) _ _).trans (blk2_2 m _ _))
    | false => exact (Pipeline.heldIn_of_not_fetch (A2 m H c) 2 n hn hf).trans (ih (Nat.lt_of_succ_lt hn))

end Cert.KernelIdeal.Run
end
-- ==== Proof.Run.lean ====
/-
  The whole program run: the host prefix, then the three kernels in order. Given that the tables fit (`Fits`), every
  execution ends with the arguments as launched, every counter at zero and the output array at the closed form `outv`.
-/
module

public import proofs.«01_k».proof.Proof.Finals

@[expose] public section

set_option maxRecDepth 16384

noncomputable section

namespace Cert.KernelIdeal.Run

open Cert.KernelIdeal Cert.KernelIdeal.Gen
open Cert.Proof
open Idealize.ShloMosaic Idealize.ShloMosaic.TcCoe
open Idealize.SL Idealize.SL.RA
open Idealize.SL.BI (sProp bigSep bigSep_univ_eq_bigSepL bigSep_mono bigSep_sep')
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg Seg HostSeg)

variable {F : FTy → Type} [FloatOps F]

local notation "𝕌" => UR sig nD τ
local notation "𝕄" => MT nD τ sig Unit (Elt F) ℕ 𝕌 ℕ

variable (m : (ℓ : Loc nD τ sig) → Buf (Elt F) ℓ)
variable (H : Fits (baseT m) (spanT m))

/-- A region with one output array changes that array and nothing else. -/
theorem after_update {cfg : Cfg sig Λ₀} {c : Dev nD} (dat : Dat τ (Elt F) Unit ℕ 𝕌 ℕ cfg c) (V : Valuation τ sig (Elt F))
    (hinj : Function.Injective (Pipeline.arrRef cfg.spec)) (hA : ∀ w, dat.A w = V (Proc.devRef .tc (Pipeline.arrRef cfg.spec w)))
    (w : Fin cfg.W) (hw : ∀ w', w' ≠ w → (cfg.win w').isOut = false) :
    Pipeline.afterRegion dat V = Function.update V (Proc.devRef .tc (Pipeline.arrRef cfg.spec w)) (dat.arrAt w cfg.N) := by
  funext b
  by_cases hb : ∃ w', b = Proc.devRef .tc (Pipeline.arrRef cfg.spec w')
  · obtain ⟨w', rfl⟩ := hb
    rw [Pipeline.afterRegion_arr dat V hinj w']
    by_cases e : w' = w
    · subst e; rw [Function.update_self]
    · rw [Function.update_of_ne (fun h => e (hinj (Proc.devRef_injective _ h))), dat.arrAt_in w' (hw w' e) _, hA]
  · unfold Pipeline.afterRegion
    rw [dif_neg hb, Function.update_of_ne (fun h => hb ⟨w, h⟩)]

/-- What each buffer holds after the third kernel. -/
def W8 (c : Dev nD) : Valuation τ sig (Elt F) := Function.update (W7 m H c) main_v19 (outv m H c)

/-- What the regions leave, read off the final contents. -/
def outs : Outs (F := F) := fun _ r c => W8 m H c r

theorem V6_eq (c : Dev nD) : V6 m (outs m H) c = W6 m H c := by
  show Function.update (V5 m c) main_v17 (W8 m H c main_v17) = W6 m H c
  have e : W8 m H c main_v17 = acc m H c 401 := by
    unfold W8
    rw [Function.update_of_ne (by decide)]
    unfold W7
    rw [Function.update_of_ne (by decide)]
    unfold W6
    rw [Function.update_self]
  rw [e]; rfl

theorem V7_eq (c : Dev nD) : V7 m (outs m H) c = W7 m H c := by
  show Function.update (V6 m (outs m H) c) main_v18 (W8 m H c main_v18) = W7 m H c
  have e : W8 m H c main_v18 = fin (W6 m H c main_v17) (W6 m H c main_v15) (W6 m H c main_v16) := by
    unfold W8
    rw [Function.update_of_ne (by decide)]
    unfold W7
    rw [Function.update_self]
  rw [V6_eq, e]; rfl

theorem V8_eq (c : Dev nD) : V8 m (outs m H) c = W8 m H c := by
  show Function.update (V7 m (outs m H) c) main_v19 (W8 m H c main_v19) = W8 m H c
  have e : W8 m H c main_v19 = outv m H c := by
    unfold W8
    rw [Function.update_self]
  rw [V7_eq, e]; rfl

theorem tables2 (c : Dev nD) : (Pipeline.tablesAt (Ix := Unit) (Name := ℕ) (U := 𝕌) (Lvl := ℕ) (pcfgs (F := F)) (tabs m) 2 c : sProp 𝕄)
    = iprop(owns (c : Thread nD τ) (Memref.whole main_v9) fullShare (baseT m) ∗ owns (c : Thread nD τ) (Memref.whole main_v13) fullShare (spanT m)) := by
  rw [owns_whole, owns_whole]
  exact bigSep_univ_eq_bigSepL [(0 : Fin 2), (1 : Fin 2)] (by decide) (by decide) _

/-- A buffer neither of the first two kernels writes keeps what the host left in it. -/
theorem W7_off (c : Dev nD) (b : Ref sig .tc) (h : b ≠ main_v18) (h' : b ≠ main_v17) : W7 m H c b = V5 m c b := by
  unfold W7 W6
  rw [Function.update_of_ne (fun e => h (Proc.devRef_injective _ e)), Function.update_of_ne (fun e => h' (Proc.devRef_injective _ e))]

/-- The three kernels' data. -/
def dats : (p : Fin 3) → (c : Dev nD) → Dat τ (Elt F) Unit ℕ 𝕌 ℕ (Pipeline.pin (pcfgs (F := F)) (tabs m) p) c
  | ⟨0, _⟩ => dat0 m H
  | ⟨1, _⟩ => dat1 m H
  | ⟨2, _⟩ => dat2 m H

theorem after0 (c : Dev nD) : Pipeline.afterRegion (dat0 m H c) (V5 m c) = W6 m H c :=
  (after_update (dat0 m H c) (V5 m c) (launch0 (F := F)).win.arr_inj (fun _ => rfl) 2 (fun w' h => by
    have : ∀ w' : Fin 3, w' ≠ 2 → (spec0 w').isOut = false := by decide
    exact this w' h)).trans
    (congrArg (Function.update (V5 m c) (Proc.devRef .tc main_v17)) (final0 m H c))
theorem after1 (c : Dev nD) : Pipeline.afterRegion (dat1 m H c) (W6 m H c) = W7 m H c :=
  (after_update (dat1 m H c) (W6 m H c) (launch1 (F := F)).win.arr_inj (fun _ => rfl) 3 (fun w' h => by
    have : ∀ w' : Fin 4, w' ≠ 3 → (spec1 w').isOut = false := by decide
    exact this w' h)).trans
    (congrArg (Function.update (W6 m H c) (Proc.devRef .tc main_v18)) (final1 m H c))
theorem after2 (c : Dev nD) : Pipeline.afterRegion (dat2 m H c) (W7 m H c) = W8 m H c :=
  (after_update (dat2 m H c) (W7 m H c) (launch2 (F := F)).win.arr_inj (fun _ => rfl) 3 (fun w' h => by
    have : ∀ w' : Fin 4, w' ≠ 3 → (spec2 w').isOut = false := by decide
    exact this w' h)).trans
    (congrArg (Function.update (W7 m H c) (Proc.devRef .tc main_v19)) (final2 m H c))

/-- Every semaphore of a TensorCore is at level zero. -/
abbrev Lset : GSem nD τ sig → Finset Unit := fun g => if g.1.2 = .tc then {()} else ∅
abbrev lv0 : GSem nD τ sig → Unit → ℕ := fun _ _ => 0

theorem cut (p : Fin 3) : Pipeline.LevelCut (pcfgs (F := F)) (tabs m) () Lset lv0 p (fun _ => 0) (fun _ => 0) where
  hι c w s := Finset.mem_singleton_self _
  hιb c w s := le_rfl
  hD c g i h := absurd h (Nat.lt_irrefl _)

/-- What a core keeps between the regions: it owes nothing. -/
def rest (_ : Fin 4) (c : Dev nD) : sProp 𝕄 := iprop((∃ Wd, owes (c : Thread nD τ) (0 : CellTallies nD τ sig Unit) Wd) ∗ emp ∗ emp)

/-- The tables at entry of a prefetching kernel are what the host left in their buffers. -/
theorem tabs_held (c : Dev nD) (b : Ref sig .tc) : V5 m 0 b = V5 m c b := by
  obtain rfl : c = 0 := Subsingleton.elim _ _
  rfl

/-- The first kernel as a segment of the run. -/
def seg_0 : RegionSeg (pcfgs (F := F)) (tabs m) (dats m H) () defs₀ Variants.none Lset lv0 0 :=
  RegionSeg.ofHeldInT (pcfgs (F := F)) (tabs m) (dats m H) () defs₀ Variants.none Lset lv0 0 (fun _ => 0) (Pipeline.ucRefs τ sig)
    (fun _ => iprop(emp)) (fun _ => iprop(emp)) launch0 (fun c => (body0 m H c).loose) (fun _ _ => rfl) (fun _ => rfl)
    (fun c w => (dat0 m H c).share_full (fun _ => rfl) w)
    (fun c => by
      show iprop(iprop(Pipeline.scopedRest spec0 c ∗ emp) ∗ Pipeline.tablesAt pcfgs (tabs m) 0 c) ⊢ Φ0 m c
      rw [tables0]
      iintro ⟨⟨H1, H3⟩, H2⟩
      isplitl [H1]; · iexact H1
      iexact H2)
    (fun c => by
      show Φ0 m c ⊢ iprop(iprop(Pipeline.scopedRest spec0 c ∗ emp) ∗ Pipeline.tablesAt pcfgs (tabs m) 0 c)
      rw [tables0]
      exact sep_mono sep_emp.2 .rfl)
    (fun _ => 0) (cut m 0) (fun _ => iprop(emp)) (V5 m) (fun _ _ => rfl) (fun c k => match k with
      | ⟨0, _⟩ => tabs_held m c main_v9
      | ⟨1, _⟩ => tabs_held m c main_v13)

/-- The second kernel as a segment of the run. -/
def seg_1 : RegionSeg (pcfgs (F := F)) (tabs m) (dats m H) () defs₀ Variants.none Lset lv0 1 :=
  RegionSeg.ofHeldIn (pcfgs (F := F)) (tabs m) (dats m H) () defs₀ Variants.none Lset lv0 1 (fun _ => 0) (Pipeline.ucRefs τ sig)
    (fun _ => iprop(emp)) (fun _ => iprop(emp)) launch1 rfl (fun c => (body1 m H c).loose) (fun _ _ => rfl) (fun _ => rfl)
    (fun c w => (dat1 m H c).share_full (fun _ => rfl) w)
    (fun c => by
      show iprop(Pipeline.scopedRest spec1 c ∗ emp) ⊢ Pipeline.scopedRest spec1 c
      exact sep_emp.1)
    (fun c => by
      show Pipeline.scopedRest spec1 c ⊢ iprop(Pipeline.scopedRest spec1 c ∗ emp)
      exact sep_emp.2)
    (fun _ => 0) (cut m 1) (fun _ => iprop(emp)) (W6 m H) (fun _ _ => rfl)

/-- The third kernel as a segment of the run. -/
def seg_2 : RegionSeg (pcfgs (F := F)) (tabs m) (dats m H) () defs₀ Variants.none Lset lv0 2 :=
  RegionSeg.ofHeldInT (pcfgs (F := F)) (tabs m) (dats m H) () defs₀ Variants.none Lset lv0 2 (fun _ => 0) (Pipeline.ucRefs τ sig)
    (fun _ => iprop(emp)) (fun _ => iprop(emp)) launch2 (fun c => (body2 m H c).loose) (fun _ _ => rfl) (fun _ => rfl)
    (fun c w => (dat2 m H c).share_full (fun _ => rfl) w)
    (fun c => by
      show iprop(iprop(Pipeline.scopedRest spec2 c ∗ emp) ∗ Pipeline.tablesAt pcfgs (tabs m) 2 c) ⊢ Φ2 m c
      rw [tables2]
      iintro ⟨⟨H1, H3⟩, H2⟩
      isplitl [H1]; · iexact H1
      iexact H2)
    (fun c => by
      show Φ2 m c ⊢ iprop(iprop(Pipeline.scopedRest spec2 c ∗ emp) ∗ Pipeline.tablesAt pcfgs (tabs m) 2 c)
      rw [tables2]
      exact sep_mono sep_emp.2 .rfl)
    (fun _ => 0) (cut m 2) (fun _ => iprop(emp)) (W7 m H) (fun _ _ => rfl) (fun c k => match k with
      | ⟨0, _⟩ => (tabs_held m c main_v9).trans (W7_off m H c main_v9 (by decide) (by decide)).symm
      | ⟨1, _⟩ => (tabs_held m c main_v13).trans (W7_off m H c main_v13 (by decide) (by decide)).symm)

/-! ## The launch and the end -/

theorem arrs0 : Pipeline.arrRefs spec0 ⊆ Pipeline.ucRefs τ sig := by decide
theorem arrs1 : Pipeline.arrRefs spec1 ⊆ Pipeline.ucRefs τ sig := by decide
theorem arrs2 : Pipeline.arrRefs spec2 ⊆ Pipeline.ucRefs τ sig := by decide
theorem tbls0 : Pipeline.tblRefs pre0 ⊆ Pipeline.ucRefs τ sig := by decide
theorem tbls2 : Pipeline.tblRefs pre2 ⊆ Pipeline.ucRefs τ sig := by decide

/-- Contents known equal may stand for each other in the thread state. -/
theorem held_eq (c : Dev nD) {V V' : Valuation τ sig (Elt F)} (h : V = V') :
    (iprop(StableHlo.held (c : Thread nD τ) (Pipeline.ucRefs τ sig) V ∗ rest (F := F) 0 c) : sProp 𝕄)
      ⊢ iprop(StableHlo.held (c : Thread nD τ) (Pipeline.ucRefs τ sig) V' ∗ rest (F := F) 0 c) := by
  subst h; exact .rfl

/-- Entered from the host's last contents, left at the first kernel's. -/
theorem pre_0 (c : Dev nD) : iprop(StableHlo.held (c : Thread nD τ) (Pipeline.ucRefs τ sig) (V5 m c) ∗ rest (F := F) 0 c) ⊢ (seg_0 m H).pre c := by
  unfold seg_0
  refine BI.Entails.trans ?_ (RegionSeg.ofHeldInT_pre (pcs := pcfgs (F := F)) (p := 0) ?_ ?_ c)
  · exact BI.Entails.refl _
  · exact arrs0
  · exact tbls0

theorem post_0 (c : Dev nD) : (seg_0 m H).post c ⊢ iprop(StableHlo.held (c : Thread nD τ) (Pipeline.ucRefs τ sig) (V6 m (outs m H) c) ∗ rest (F := F) 1 c) := by
  unfold seg_0
  refine BI.Entails.trans (RegionSeg.ofHeldInT_post (pcs := pcfgs (F := F)) (p := 0) ?_ ?_ c) (held_eq c ((after0 m H c).trans (V6_eq m H c).symm))
  · exact arrs0
  · exact tbls0

theorem pre_1 (c : Dev nD) : iprop(StableHlo.held (c : Thread nD τ) (Pipeline.ucRefs τ sig) (V6 m (outs m H) c) ∗ rest (F := F) 1 c) ⊢ (seg_1 m H).pre c := by
  refine (held_eq c (V6_eq m H c)).trans ?_
  unfold seg_1
  refine BI.Entails.trans ?_ (RegionSeg.ofHeldIn_pre (pcs := pcfgs (F := F)) (p := 1) ?_ c)
  · exact BI.Entails.refl _
  exact arrs1

theorem post_1 (c : Dev nD) : (seg_1 m H).post c ⊢ iprop(StableHlo.held (c : Thread nD τ) (Pipeline.ucRefs τ sig) (V7 m (outs m H) c) ∗ rest (F := F) 2 c) := by
  unfold seg_1
  refine BI.Entails.trans (RegionSeg.ofHeldIn_post (pcs := pcfgs (F := F)) (p := 1) ?_ c) (held_eq c ((after1 m H c).trans (V7_eq m H c).symm))
  exact arrs1

theorem pre_2 (c : Dev nD) : iprop(StableHlo.held (c : Thread nD τ) (Pipeline.ucRefs τ sig) (V7 m (outs m H) c) ∗ rest (F := F) 2 c) ⊢ (seg_2 m H).pre c := by
  refine (held_eq c (V7_eq m H c)).trans ?_
  unfold seg_2
  refine BI.Entails.trans ?_ (RegionSeg.ofHeldInT_pre (pcs := pcfgs (F := F)) (p := 2) ?_ ?_ c)
  · exact BI.Entails.refl _
  · exact arrs2
  · exact tbls2

theorem post_2 (c : Dev nD) : (seg_2 m H).post c ⊢ iprop(StableHlo.held (c : Thread nD τ) (Pipeline.ucRefs τ sig) (V8 m (outs m H) c) ∗ rest (F := F) 3 c) := by
  unfold seg_2
  refine BI.Entails.trans (RegionSeg.ofHeldInT_post (pcs := pcfgs (F := F)) (p := 2) ?_ ?_ c) (held_eq c ((after2 m H c).trans (V8_eq m H c).symm))
  · exact arrs2
  · exact tbls2

variable (ρ : Dev nD → PrngReg)

/-- The output's final contents. -/
theorem out_at_end (c : Dev nD) : V8 m (outs m H) c main_v19 = outv m H c := by
  rw [V8_eq]
  unfold W8
  rw [Function.update_self]

/-- Beside nothing on every core. -/
theorem own_alone (P : sProp 𝕄) : P ⊢ iprop(P ∗ bigSep Finset.univ fun _ : Dev nD => iprop(emp)) := by
  rw [show (bigSep Finset.univ fun _ : Dev nD => (iprop(emp) : sProp 𝕄)) = iprop(emp) from BI.bigSep_emp_const _]
  exact sep_emp.2

/-- The launch grants every core owing nothing. -/
theorem start : iprop((bigSep Finset.univ fun c : Dev nD => iprop(unscopedSems0 c ∗ owes (c : Thread nD τ) ((fun _ => 0 : Dev nD → CellTallies nD τ sig Unit) c) ∅
        ∗ Pipeline.launchCred (fun _ => 0) c ∗ prngReg c (ρ c) ∗ emp)) ∗ levAts Lset lv0)
      ⊢ (|={Set.univ}=> bigSep Finset.univ (rest (F := F) 0) : sProp 𝕄) := by
  have h : ∀ c : Dev nD, (iprop(unscopedSems0 c ∗ owes (c : Thread nD τ) ((fun _ => 0 : Dev nD → CellTallies nD τ sig Unit) c) ∅
        ∗ Pipeline.launchCred (fun _ => 0) c ∗ prngReg c (ρ c) ∗ emp) : sProp 𝕄) ⊢ rest 0 c := fun c => by
    unfold rest
    have h1 : (iprop(unscopedSems0 c ∗ owes (c : Thread nD τ) ((fun _ => 0 : Dev nD → CellTallies nD τ sig Unit) c) ∅
        ∗ Pipeline.launchCred (fun _ => 0) c ∗ prngReg c (ρ c) ∗ emp) : sProp 𝕄) ⊢ iprop(∃ Wd, owes (c : Thread nD τ) (0 : CellTallies nD τ sig Unit) Wd) := by
      iintro ⟨H1, H2, H3⟩
      iexists _; iexact H2
    exact h1.trans (sep_emp.2.trans (sep_mono .rfl sep_emp.2))
  have h' : (bigSep Finset.univ fun c : Dev nD => iprop(unscopedSems0 c ∗ owes (c : Thread nD τ) ((fun _ => 0 : Dev nD → CellTallies nD τ sig Unit) c) ∅
        ∗ Pipeline.launchCred (fun _ => 0) c ∗ prngReg c (ρ c) ∗ emp)) ⊢ (bigSep Finset.univ (rest (F := F) 0) : sProp 𝕄) := bigSep_mono fun c _ => h c
  iintro ⟨H, Hl⟩
  imodintro
  iapply h' $$ H

set_option backward.isDefEq.respectTransparency.types false in
/-- The run: the arguments end as launched, the output array at `outv`, every counter at zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v19) = outv m H c)
      ∧ r.2.sem = fun _ => 0) := by
  refine Pipeline.θ_run_regions_kit_dev_sems (pcfgs (F := F)) (tabs m) (dats m H) () (cellOf_inj (tabs m))
    (emb₁ : Emb (UR sig nD τ) 𝕄) defs₀ Variants.none Lset lv0 m ρ main
    (segs m Variants.none Lset lv0 (rest (F := F)) () (tabs m) (dats m H) (seg_0 m H) (seg_1 m H) (seg_2 m H))
    (fun c Q => by
      rewrite [main_chain c, Seg.run_eq_chain,
        show (segs m Variants.none Lset lv0 (rest (F := F)) () (tabs m) (dats m H) (seg_0 m H) (seg_1 m H) (seg_2 m H) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          Prog.lift (.customCall (Pipeline.entry 2) ()) ] from rfl]
      dsimp (config := { failIfUnchanged := false }) only
      exact .rfl)
    (fun c => by simp only [segs, Seg.pipes_host, Seg.pipes_region, Seg.pipes_nil]; decide) (fun _ => 0)
    (fun g hg => if_neg hg) (fun _ => iprop(emp))
    (initOf (Pipeline.cells (Pipeline.pin (pcfgs (F := F)) (tabs m)) (cellOf_inj (tabs m))) (Pipeline.launchToks (Pipeline.pin (pcfgs (F := F)) (tabs m)) (cellOf_inj (tabs m))))
    (by
      rw [ownU_emb₁]
      iintro Hu
      imodintro
      iapply (own_alone (F := F) _) $$ Hu)
    (T₀ := fun c => iprop(StableHlo.held (c : Thread nD τ) (Pipeline.ucRefs τ sig) (V0 m c) ∗ rest (F := F) 0 c))
    (Tₙ := fun c => StableHlo.held (c : Thread nD τ) (Pipeline.ucRefs τ sig) (V8 m (outs m H) c))
    (hch := fun c => ⟨.rfl, .rfl, .rfl, .rfl, .rfl, pre_0 m H c, (post_0 m H c).trans (pre_1 m H c), (post_1 m H c).trans (pre_2 m H c),
      (post_2 m H c).trans (sep_mono .rfl sep_elim_left)⟩)
    (hinit := ?_)
    (QY := fun c s => s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_v19) = outv m H c)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((fun _ => 0 : Dev nD → CellTallies nD τ sig Unit) c) ∅
                ∗ Pipeline.launchCred (fun _ => 0) c ∗ prngReg c (ρ c) ∗ emp)) : sProp 𝕄) := by
      rw [← bigSep_sep']
      exact bigSep_mono fun c _ => by rw [← Pipeline.unscopedBufs_held (Ix := Unit) (Name := ℕ) (U := 𝕌) (Lvl := ℕ) c (V0 m c)]; exact BI.Entails.refl _
    iintro ⟨H, Hla⟩
    ihave H' := hsplit $$ H
    icases H' with ⟨Hh, Hr⟩
    imod (start (F := F) ρ) $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V8 m (outs m H) c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V8_main_arg0 m (outs m H) c),
        (h (Proc.devRef .tc main_arg1) (Finset.mem_filter.mpr ⟨StableHlo.devRef_mem_tcRefs main_arg1, by decide⟩)).trans (V8_main_arg1 m (outs m H) c),
        (h (Proc.devRef .tc main_arg2) (Finset.mem_filter.mpr ⟨StableHlo.devRef_mem_tcRefs main_arg2, by decide⟩)).trans (V8_main_arg2 m (outs m H) c),
        (h (Proc.devRef .tc main_arg3) (Finset.mem_filter.mpr ⟨StableHlo.devRef_mem_tcRefs main_arg3, by decide⟩)).trans (V8_main_arg3 m (outs m H) c),
        (h (Proc.devRef .tc main_v19) (Finset.mem_filter.mpr ⟨StableHlo.devRef_mem_tcRefs main_v19, by decide⟩)).trans (out_at_end m H c)⟩
    · iexact HSI

end Cert.KernelIdeal.Run
end
-- ==== Proof.Ranks.lean ====
/-
  Ranks of an ascending sequence: the number of places up to `n` at which the value changes. Equal values have equal
  ranks and the other way round, a rank never exceeds the value, and it grows by at most one a place.
-/
module

public import Idealize.ShloMosaic.Lib.Routing.Ops
public import Idealize.ShloMosaic.Lib.Affine

@[expose] public section

noncomputable section

namespace Cert.Proof.Ranks

open Idealize.ShloMosaic Idealize.ShloMosaic.ValueIdx

/-- One where the value differs from the one before, zero elsewhere and at the first place. -/
def step (v : ℕ → ℕ) (n : ℕ) : ℕ := if n = 0 then 0 else if v n = v (n - 1) then 0 else 1

/-- The number of changes up to place `n`. -/
def rank (v : ℕ → ℕ) (n : ℕ) : ℕ := ((List.range (n + 1)).map (step v)).sum

theorem rank_zero (v : ℕ → ℕ) : rank v 0 = 0 := by simp [rank, step]

theorem rank_succ (v : ℕ → ℕ) (n : ℕ) : rank v (n + 1) = rank v n + if v (n + 1) = v n then 0 else 1 := by
  unfold rank
  rw [List.range_succ (n := n + 1), List.map_append, List.sum_append]
  simp [step]

/-- Between two places the rank does not fall and grows by at most the distance. -/
theorem rank_add (v : ℕ → ℕ) (n k : ℕ) : rank v n ≤ rank v (n + k) ∧ rank v (n + k) ≤ rank v n + k := by
  induction k with
  | zero => exact ⟨le_rfl, le_rfl⟩
  | succ k ih =>
    have e := rank_succ v (n + k)
    rw [← Nat.add_assoc]
    split at e <;> omega

theorem rank_mono (v : ℕ → ℕ) {a b : ℕ} (h : a ≤ b) : rank v a ≤ rank v b := by
  obtain ⟨k, rfl⟩ := Nat.exists_eq_add_of_le h
  exact (rank_add v a k).1

theorem rank_le_add (v : ℕ → ℕ) {a b : ℕ} (h : a ≤ b) : rank v b ≤ rank v a + (b - a) := by
  obtain ⟨k, rfl⟩ := Nat.exists_eq_add_of_le h
  have := (rank_add v a k).2
  omega

/-- The rank is at most the value, for an ascending sequence. -/
theorem rank_le (v : ℕ → ℕ) (N : ℕ) (hv : ∀ n, n + 1 < N → v n ≤ v (n + 1)) (n : ℕ) (hn : n < N) : rank v n ≤ v n := by
  induction n with
  | zero => simp [rank_zero]
  | succ n ih =>
    have := ih (by omega)
    have := hv n hn
    rw [rank_succ]
    split <;> omega

theorem val_mono (v : ℕ → ℕ) (N : ℕ) (hv : ∀ n, n + 1 < N → v n ≤ v (n + 1)) (a k : ℕ) (h : a + k < N) : v a ≤ v (a + k) := by
  induction k with
  | zero => exact le_rfl
  | succ k ih => exact (ih (by omega)).trans (hv (a + k) h)

/-- Two places of an ascending sequence have the same rank exactly if they have the same value. -/
theorem rank_eq_iff (v : ℕ → ℕ) (N : ℕ) (hv : ∀ n, n + 1 < N → v n ≤ v (n + 1)) (a b : ℕ) (ha : a < N) (hb : b < N) :
    rank v a = rank v b ↔ v a = v b := by
  have key : ∀ (a k : ℕ), a + k < N → (rank v a = rank v (a + k) ↔ v a = v (a + k)) := by
    intro a k
    induction k with
    | zero => intro _; simp
    | succ k ih =>
      intro h
      have i := ih (by omega)
      have m1 := (rank_add v a k).1
      have m2 := val_mono v N hv a k (by omega)
      have m3 := hv (a + k) h
      have e := rank_succ v (a + k)
      rw [← Nat.add_assoc]
      split at e <;> omega
  rcases Nat.le_total a b with h | h
  · obtain ⟨k, rfl⟩ := Nat.exists_eq_add_of_le h
    exact key a k hb
  · obtain ⟨k, rfl⟩ := Nat.exists_eq_add_of_le h
    have := key b k ha
    constructor
    · intro e; exact (this.1 e.symm).symm
    · intro e; exact (this.2 e.symm).symm

/-! ## The index column as a sequence -/

/-- The values of the index column, zero past its end. -/
def vals (ids : (⟨1, ![320000]⟩ : Shape).Idx → BitVec 32) (n : ℕ) : ℕ :=
  if h : n < 320000 then (ids (ix1 ⟨n, h⟩)).toNat else 0

theorem vals_of_lt (ids : (⟨1, ![320000]⟩ : Shape).Idx → BitVec 32) (n : ℕ) (h : n < 320000) : vals ids n = (ids (ix1 ⟨n, h⟩)).toNat :=
  dif_pos h

/-- Ascending, and every value in the range of the segments. -/
structure Ordered (ids : (⟨1, ![320000]⟩ : Shape).Idx → BitVec 32) : Prop where
  asc : ∀ n, n + 1 < 320000 → vals ids n ≤ vals ids (n + 1)
  small : ∀ n, n < 320000 → vals ids n < 10000

/-- The rank of row `n`. -/
def rk (ids : (⟨1, ![320000]⟩ : Shape).Idx → BitVec 32) (n : ℕ) : ℕ := rank (vals ids) n

theorem rk_lt {ids : (⟨1, ![320000]⟩ : Shape).Idx → BitVec 32} (H : Ordered ids) (n : ℕ) (hn : n < 320000) : rk ids n < 10000 :=
  (rank_le _ 320000 H.asc n hn).trans_lt (H.small n hn)

theorem rk_eq_iff {ids : (⟨1, ![320000]⟩ : Shape).Idx → BitVec 32} (H : Ordered ids) (a b : Fin 320000) :
    rk ids a.val = rk ids b.val ↔ ids (ix1 a) = ids (ix1 b) := by
  refine (rank_eq_iff _ 320000 H.asc _ _ a.isLt b.isLt).trans ?_
  rw [vals_of_lt _ _ a.isLt, vals_of_lt _ _ b.isLt]
  exact BitVec.toNat_inj

/-- The boundary flags a word at a time: zero in front, then one word a neighbouring pair, set where the two differ. -/
theorem flags_apply (ids : (⟨1, ![320000]⟩ : Shape).Idx → BitVec 32) (z : (⟨1, ![1]⟩ : Shape).Idx → BitVec 32) (hz : ∀ j, z j = 0#32)
    (d : (⟨1, ![319999]⟩ : Shape).Idx → BitVec 32)
    (hd : ∀ (k : Fin 319999) (a b : Fin 320000), a.val = k.val + 1 → b.val = k.val → d (ix1 k) = if ids (ix1 a) = ids (ix1 b) then 0#32 else 1#32)
    (h : Shape.Concatenates [⟨1, ![1]⟩, ⟨1, ![319999]⟩] ⟨1, ![320000]⟩ 0) (i : Fin 320000) :
    concatenate (⟨1, ![320000]⟩ : Shape) 0 [⟨⟨1, ![1]⟩, z⟩, ⟨⟨1, ![319999]⟩, d⟩] h (ix1 i) = BitVec.ofNat 32 (step (vals ids) i.val) := by
  rcases Nat.eq_zero_or_pos i.val with h0 | h0
  · refine (concatenate_pair_apply_left 0 z d h (ix1 i) rfl (ix1 0) ?_).trans ?_
    · intro b
      match b with
      | ⟨0, _⟩ => exact h0.symm
    · rw [hz]; simp [step, h0]
  · refine (concatenate_pair_apply_right 0 z d h (ix1 i) rfl rfl (ix1 ⟨i.val - 1, by have := i.isLt; omega⟩) ?_ ?_).trans ?_
    · intro b hb
      match b with
      | ⟨0, _⟩ => exact absurd rfl hb
    · show i.val - 1 + 1 = i.val
      omega
    · have hi := i.isLt
      rw [hd ⟨i.val - 1, by omega⟩ i ⟨i.val - 1, by omega⟩ (by show i.val = i.val - 1 + 1; omega) rfl]
      have hv : vals ids i.val = vals ids (i.val - 1) ↔ ids (ix1 i) = ids (ix1 ⟨i.val - 1, by omega⟩) := by
        rw [vals_of_lt _ _ i.isLt, vals_of_lt _ _ (show i.val - 1 < 320000 by omega)]
        exact BitVec.toNat_inj
      unfold step
      rw [if_neg (show ¬ i.val = 0 by omega)]
      by_cases q : vals ids i.val = vals ids (i.val - 1)
      · rw [if_pos q, if_pos (hv.1 q)]
      · rw [if_neg q, if_neg (fun q' => q (hv.2 q'))]

/-- A remainder by eight with the sign of the divisor, of a word that is not negative: the plain remainder. -/
theorem floor_mod (n : ℕ) (hn : n < 10000) (r : BitVec 32) (hr : r = IntOp.remsi .host (BitVec.ofNat 32 n) 8#32) :
    r = BitVec.ofNat 32 (n % 8) := by
  subst hr
  have hN : (BitVec.ofNat 32 n).toNat = n := by rw [BitVec.toNat_ofNat]; omega
  refine BitVec.eq_of_toNat_eq ?_
  have := IntOp.toNat_remsi .host (x := BitVec.ofNat 32 n) (by omega) 8 (by omega) (by omega)
  rw [BitVec.toNat_ofNat, Nat.mod_eq_of_lt (by omega)]
  exact this.trans (congrArg (· % 8) hN)

/-- The aligned start of the window for block `t`. -/
def base (ids : (⟨1, ![320000]⟩ : Shape).Idx → BitVec 32) (t : ℕ) : ℕ := rk ids (t * 800) / 8 * 8

/-- The number of rows of the window the block reaches. -/
def span (ids : (⟨1, ![320000]⟩ : Shape).Idx → BitVec 32) (t : ℕ) : ℕ := rk ids (t * 800 + 799) - base ids t + 1

theorem base_dvd (ids : (⟨1, ![320000]⟩ : Shape).Idx → BitVec 32) (t : ℕ) : 8 ∣ base ids t := ⟨_, Nat.mul_comm _ _⟩

theorem base_lt {ids : (⟨1, ![320000]⟩ : Shape).Idx → BitVec 32} (H : Ordered ids) (t : ℕ) (ht : t < 400) : base ids t < 10000 := by
  have := rk_lt H (t * 800) (by omega)
  unfold base; omega

/-- Every rank of a block lies in its window, and the window has at most 808 rows. -/
theorem in_window {ids : (⟨1, ![320000]⟩ : Shape).Idx → BitVec 32} (H : Ordered ids) (t j : ℕ) (hj : j < 800) :
    base ids t ≤ rk ids (t * 800 + j) ∧ rk ids (t * 800 + j) < base ids t + span ids t ∧ span ids t ≤ 808 := by
  have a := rank_mono (vals ids) (show t * 800 ≤ t * 800 + j by omega)
  have b := rank_mono (vals ids) (show t * 800 + j ≤ t * 800 + 799 by omega)
  have c := rank_le_add (vals ids) (show t * 800 ≤ t * 800 + 799 by omega)
  unfold span base rk
  omega

end Cert.Proof.Ranks

end
-- ==== Proof.Pre.lean ====
/-
  What the first precondition says of the arguments: the index column ascends within the range of the segments.
-/
module

public import proofs.«01_k».proof.Pre_sorted_rows
public import proofs.«01_k».proof.Proof.Ranks

@[expose] public section

noncomputable section

namespace Cert.Proof

open Idealize.ShloMosaic Idealize.ShloMosaic.ValueIdx
open Cert.Proof.Ranks

instance sorted_facts : Cert.Pre_sorted_rows.Facts := ⟨by decide, by decide, by decide⟩

/-- The three comparisons of every neighbouring pair give an ordered column. -/
theorem ordered_of (ids : (⟨1, ![320000]⟩ : Shape).Idx → BitVec 32)
    (h : ∀ (k : Fin 319999) (a b : Fin 320000), a.val = k.val → b.val = k.val + 1 →
      IntOp.cmpi .sge (ids (ix1 a)) 0#32 = 1#1 ∧ IntOp.cmpi .sle (ids (ix1 a)) (ids (ix1 b)) = 1#1
        ∧ IntOp.cmpi .slt (ids (ix1 b)) 10000#32 = 1#1) : Ordered ids := by
  have key : ∀ n (h1 : n + 1 < 320000), vals ids n ≤ vals ids (n + 1) ∧ vals ids (n + 1) < 10000 := by
    intro n h1
    obtain ⟨c1, c2, c3⟩ := h ⟨n, by omega⟩ ⟨n, by omega⟩ ⟨n + 1, h1⟩ rfl rfl
    rw [vals_of_lt _ _ h1, vals_of_lt _ _ (show n < 320000 by omega)]
    generalize ids (ix1 ⟨n, by omega⟩) = x at *
    generalize ids (ix1 ⟨n + 1, h1⟩) = y at *
    simp only [IntOp.cmpi, StableHlo.Predicate.ofBool_eq_one_iff, BitVec.sle, BitVec.slt, decide_eq_true_eq] at c1 c2 c3
    have e1 : (0#32 : BitVec 32).toInt = 0 := by decide
    have e2 : (10000#32 : BitVec 32).toInt = 10000 := by decide
    rw [e1] at c1; rw [e2] at c3
    have hx := BitVec.toInt_eq_toNat_cond x
    have hy := BitVec.toInt_eq_toNat_cond y
    have := x.isLt
    have := y.isLt
    split at hx <;> split at hy <;> omega
  refine ⟨fun n h1 => (key n h1).1, fun n h1 => ?_⟩
  rcases Nat.eq_zero_or_pos n with rfl | h0
  · exact (key 0 (by omega)).1.trans_lt (key 0 (by omega)).2
  · have := (key (n - 1) (by omega)).2
    rwa [show n - 1 + 1 = n by omega] at this

/-- The first precondition orders the index column. -/
theorem sorted_ordered {F : FTy → Type} [FloatOps F] (x : FVec F ⟨2, ![320000, 128]⟩ .f32) (ids : IVec ⟨1, ![320000]⟩ 32)
    (w b : FVec F ⟨1, ![128]⟩ .f32) (h : ∀ j, Cert.Pre_sorted_rows.fn x ids w b j = 1#1) : Ordered ids := by
  refine ordered_of ids fun k a b' ha hb => ?_
  have hk := h (ix1 k)
  unfold Cert.Pre_sorted_rows.fn at hk
  obtain ⟨h1, h3⟩ := IntOp.andi_eq_one.1 hk
  obtain ⟨h1, h2⟩ := IntOp.andi_eq_one.1 h1
  have s0 := Routing.slice1 0 ids Cert.Pre_sorted_rows.Facts.slices_S320000_S319999_0 k (by have := k.isLt; omega)
  have s1 := Routing.slice1 1 ids Cert.Pre_sorted_rows.Facts.slices_S320000_S319999_1 k (by have := k.isLt; omega)
  rw [show (⟨0 + k.val, by have := k.isLt; omega⟩ : Fin 320000) = a from Fin.ext (by show 0 + k.val = a.val; omega)] at s0
  rw [show (⟨1 + k.val, by have := k.isLt; omega⟩ : Fin 320000) = b' from Fin.ext (by show 1 + k.val = b'.val; omega)] at s1
  rw [← s0, ← s1]
  exact ⟨h1, h2, h3⟩

end Cert.Proof

end
-- ==== Proof.Host.lean ====
/-
  What the host computes before the first kernel: the ranks of the rows, the windows' aligned starts and spans, and
  that every window the kernels address lies inside their buffers.
-/
module

public import proofs.«01_k».proof.Proof.Regions
public import proofs.«01_k».proof.Proof.Pre

@[expose] public section

set_option maxRecDepth 16384

noncomputable section

namespace Cert.KernelIdeal.Run

open Cert.KernelIdeal Cert.KernelIdeal.Gen
open Cert.Proof Cert.Proof.Ranks
open Idealize.ShloMosaic Idealize.ShloMosaic.TcCoe Idealize.ShloMosaic.ValueIdx

variable {F : FTy → Type} [FloatOps F]

variable (m : (ℓ : Loc nD τ sig) → Buf (Elt F) ℓ)

/-- The index column the program is launched with. -/
abbrev ids (c : Dev nD) : Vec F S320000 .i32 := m (c, main_arg1)

/-- The boundary flags, as the host computes them. -/
def flagsOf (x : Vec F S320000 .i32) : Vec F S320000 .i32 :=
  concatenate S320000 0 [⟨S1, broadcastInDim S1 ![] bcast_S_S1 (constantI S_ 32 0#32)⟩,
    ⟨S319999, (extui 32 (cmpi .ne (extractStridedSlice S319999 ![1] x slices_S320000_S319999_1)
      (extractStridedSlice S319999 ![0] x slices_S320000_S319999_0)) natLt_1_32 : IVec S319999 32)⟩] concatenates_S1_S319999_S320000_d0

/-- The running sum of the flags. -/
def ranksOf (x : Vec F S320000 .i32) : Vec F S320000 .i32 :=
  Host.reduceWindow IntOp.addi ![320000] ![1] ![319999] ![0] (flagsOf (F := F) x) (broadcastInDim S_ ![] bcast_S_S_ (constantI S_ 32 0#32))
    reduceWindows_S320000_S320000_w320000s1p319999_0 h_S_

theorem V1_v5 (c : Dev nD) : V1 m c main_v5 = flagsOf (F := F) (ids m c) := by
  show StableHlo.after hostOps0 (V0 m c) (Proc.devRef .tc main_v5) = _
  after_results
  rfl

theorem V2_v6 (c : Dev nD) : V2 m c main_v6 = ranksOf (F := F) (ids m c) := by
  unfold ranksOf
  rw [← V1_v5 m c]
  show StableHlo.after hostOps0_1 (V1 m c) (Proc.devRef .tc main_v6) = _
  generalize V1 m c = V
  simp only [hostOps0_1, StableHlo.TRef.nullary, StableHlo.TRef.binary, StableHlo.TRef.unary, StableHlo.TRef.toBuf, StableHlo.TRef.ofBuf, cast_eq]
  after_results_simp <;> rfl

/-- The boundary flag of a row. -/
theorem flagsOf_apply (x : Vec F S320000 .i32) (i : Fin 320000) : flagsOf (F := F) x (ix1 i) = BitVec.ofNat 32 (step (vals x) i.val) := by
  refine flags_apply x _ (fun j => rfl) _ (fun k a b ha hb => ?_) _ i
  have s0 := Routing.slice1 0 x slices_S320000_S319999_0 k (by have := k.isLt; omega)
  have s1 := Routing.slice1 1 x slices_S320000_S319999_1 k (by have := k.isLt; omega)
  rw [show (⟨0 + k.val, by have := k.isLt; omega⟩ : Fin 320000) = b from Fin.ext (by show 0 + k.val = b.val; omega)] at s0
  rw [show (⟨1 + k.val, by have := k.isLt; omega⟩ : Fin 320000) = a from Fin.ext (by show 1 + k.val = a.val; omega)] at s1
  show (IntOp.cmpi .ne (extractStridedSlice S319999 ![1] x slices_S320000_S319999_1 (ix1 k))
    (extractStridedSlice S319999 ![0] x slices_S320000_S319999_0 (ix1 k))).setWidth 32 = _
  rw [s0, s1]
  show (BitVec.ofBool (x (ix1 a) != x (ix1 b))).setWidth 32 = _
  by_cases q : x (ix1 a) = x (ix1 b)
  · rw [if_pos q, q]; simp
  · rw [if_neg q, show (x (ix1 a) != x (ix1 b)) = true from bne_iff_ne.2 q]; rfl

/-- The host's ranks are the ranks of the sequence of indices. -/
theorem ranksOf_apply (x : Vec F S320000 .i32) (i : Fin 320000) : ranksOf (F := F) x (ix1 i) = BitVec.ofNat 32 (rk x i.val) :=
  Routing.cumsum1 (by decide) (flagsOf (F := F) x) (step (vals x)) (flagsOf_apply x) _ rfl _ _ i

theorem V5_v6 (c : Dev nD) : V5 m c main_v6 = ranksOf (F := F) (ids m c) :=
  (V5_of m c main_v6 (by decide)).trans ((V4_of m c main_v6 (by decide)).trans ((V3_of m c main_v6 (by decide)).trans (V2_v6 m c)))

/-- The ranks of the blocks' first rows. -/
theorem V3_v7 (c : Dev nD) : V3 m c main_v7 = Host.slice S400 ![0] ![800] (ranksOf (F := F) (ids m c)) slicesBy_S320000_S400_0s800 := by
  rw [← V2_v6]
  show StableHlo.after hostOps0_2 (V2 m c) (Proc.devRef .tc main_v7) = _
  after_results

/-- The remainder the host takes of a column. -/
def modOf (x : Vec F S400 .i32) (d : Vec F S_ .i32) : Vec F S400 .i32 :=
  let k : Vec F S_ .i32 := select (cmpi .eq (id d) (constantI S_ 32 0#32)) (constantI S_ 32 1#32) (id d)
  let r : Vec F S400 .i32 := Host.remsi x (broadcastInDim S400 ![] bcast_S_S400 k)
  select (andi (cmpi .ne (cmpi .slt r (broadcastInDim S400 ![] bcast_S_S400 (constantI S_ 32 0#32)))
      (broadcastInDim S400 ![] bcast_S_S400 (cmpi .slt k (constantI S_ 32 0#32))))
    (cmpi .ne r (broadcastInDim S400 ![] bcast_S_S400 (constantI S_ 32 0#32))))
    (addi r (broadcastInDim S400 ![] bcast_S_S400 k)) r

theorem V4_v8 (c : Dev nD) : V4 m c main_v8 = modOf (F := F) (V3 m c main_v7) (V3 m c main_c_0) := by
  show StableHlo.after hostOps0_3 (V3 m c) (Proc.devRef .tc main_v8) = _
  generalize V3 m c = V
  simp only [hostOps0_3, StableHlo.TRef.nullary, StableHlo.TRef.binary, StableHlo.TRef.unary, StableHlo.TRef.ternary, StableHlo.TRef.toBuf, StableHlo.TRef.ofBuf, cast_eq]
  after_results_simp <;> rfl

theorem V3_c0 (c : Dev nD) : V3 m c main_c_0 = constantI S_ 32 8#32 := by
  show StableHlo.after hostOps0_2 (V2 m c) (Proc.devRef .tc main_c_0) = _
  after_results

/-- The host's remainder by eight of a small rank. -/
theorem modOf_apply (x : Vec F S400 .i32) (j : S400.Idx) (n : ℕ) (hn : n < 10000) (hx : x j = BitVec.ofNat 32 n) :
    modOf (F := F) x (constantI S_ 32 8#32) j = BitVec.ofNat 32 (n % 8) := by
  have hr := floor_mod n hn _ rfl
  show (if (IntOp.andi (IntOp.cmpi .ne (IntOp.cmpi .slt (IntOp.remsi .host (x j) 8#32) 0#32) (IntOp.cmpi .slt 8#32 0#32))
      (IntOp.cmpi .ne (IntOp.remsi .host (x j) 8#32) 0#32)) = 1#1 then IntOp.addi (IntOp.remsi .host (x j) 8#32) 8#32
      else IntOp.remsi .host (x j) 8#32) = _
  rw [hx, hr]
  have h8 : n % 8 < 8 := Nat.mod_lt _ (by omega)
  generalize n % 8 = k at *
  clear hr hx hn
  interval_cases k <;> decide

theorem subi_at (x y : Vec F S400 .i32) (j : S400.Idx) (a b : BitVec 32) (hx : x j = a) (hy : y j = b) : subi x y j = a - b := by
  subst hx hy; rfl

theorem span_at (x y : Vec F S400 .i32) (j : S400.Idx) (a b : BitVec 32) (hx : x j = a) (hy : y j = b) :
    addi (subi x y) (broadcastInDim S400 ![] bcast_S_S400 (constantI S_ 32 1#32)) j = a - b + 1#32 := by
  subst hx hy; rfl

theorem V5_v9 (c : Dev nD) : V5 m c main_v9 = subi (V4 m c main_v7) (V4 m c main_v8) := by
  show StableHlo.after hostOps0_4 (V4 m c) (Proc.devRef .tc main_v9) = _
  after_results

theorem V5_v13 (c : Dev nD) : V5 m c main_v13 = addi (subi (Host.slice S400 ![799] ![800] (V4 m c main_v6) slicesBy_S320000_S400_799s800)
    (subi (V4 m c main_v7) (V4 m c main_v8))) (broadcastInDim S400 ![] bcast_S_S400 (constantI S_ 32 1#32)) := by
  show StableHlo.after hostOps0_4 (V4 m c) (Proc.devRef .tc main_v13) = _
  after_results

theorem V5_v14 (c : Dev nD) : V5 m c main_v14 = shapeCast S400x800x1 (V4 m c main_v6 : Vec F S320000 .i32) shapeCasts_S320000_S400x800x1 := by
  show StableHlo.after hostOps0_4 (V4 m c) (Proc.devRef .tc main_v14) = _
  after_results
  rfl

/-- The first row's rank of block `t`. -/
theorem V4_v7_apply (c : Dev nD) (t : Fin 400) : V4 m c main_v7 (ix1 t) = BitVec.ofNat 32 (rk (ids m c) (t.val * 800)) := by
  have e : V4 m c main_v7 = Host.slice S400 ![0] ![800] (ranksOf (F := F) (ids m c)) slicesBy_S320000_S400_0s800 :=
    (V4_of m c main_v7 (by decide)).trans (V3_v7 m c)
  rw [e]
  have ht := t.isLt
  refine Eq.trans (congrArg (ranksOf (F := F) (ids m c)) (funext fun a => ?_)) (ranksOf_apply (ids m c) ⟨t.val * 800, by omega⟩)
  match a with
  | ⟨0, _⟩ => exact Fin.ext (by show 0 + 800 * t.val = t.val * 800; omega)

theorem V4_v8_apply (c : Dev nD) (H : Ordered (ids m c)) (t : Fin 400) :
    V4 m c main_v8 (ix1 t) = BitVec.ofNat 32 (rk (ids m c) (t.val * 800) % 8) := by
  rw [V4_v8, V3_c0]
  have ht := t.isLt
  exact modOf_apply _ _ _ (rk_lt H _ (by omega)) ((congrFun (V4_of m c main_v7 (by decide)).symm _).trans (V4_v7_apply m c t))

/-- The aligned start of block `t`'s window. -/
theorem base_apply (c : Dev nD) (H : Ordered (ids m c)) (t : Fin 400) : V5 m c main_v9 (ix1 t) = BitVec.ofNat 32 (base (ids m c) t.val) := by
  rw [V5_v9]
  refine (subi_at _ _ _ _ _ (V4_v7_apply m c t) (V4_v8_apply m c H t)).trans ?_
  have ht := t.isLt
  have := rk_lt H (t.val * 800) (by omega)
  unfold base
  refine BitVec.eq_of_toNat_eq ?_
  rw [BitVec.toNat_sub, BitVec.toNat_ofNat, BitVec.toNat_ofNat, BitVec.toNat_ofNat]
  omega

/-- The span of block `t`. -/
theorem span_apply (c : Dev nD) (H : Ordered (ids m c)) (t : Fin 400) : V5 m c main_v13 (ix1 t) = BitVec.ofNat 32 (span (ids m c) t.val) := by
  have hb := base_apply m c H t
  rw [V5_v9] at hb
  rw [V5_v13]
  rw [show V4 m c main_v6 = ranksOf (F := F) (ids m c) from (V4_of m c main_v6 (by decide)).trans ((V3_of m c main_v6 (by decide)).trans (V2_v6 m c))]
  have ht := t.isLt
  have e : Host.slice S400 ![799] ![800] (ranksOf (F := F) (ids m c)) slicesBy_S320000_S400_799s800 (ix1 t)
      = BitVec.ofNat 32 (rk (ids m c) (t.val * 800 + 799)) := by
    refine Eq.trans (congrArg (ranksOf (F := F) (ids m c)) (funext fun a => ?_)) (ranksOf_apply (ids m c) ⟨t.val * 800 + 799, by omega⟩)
    match a with
    | ⟨0, _⟩ => exact Fin.ext (by show 799 + 800 * t.val = t.val * 800 + 799; omega)
  refine (span_at _ _ _ _ _ e hb).trans ?_
  have h1 := rk_lt H (t.val * 800 + 799) (by omega)
  have h2 := (in_window H t.val 799 (by omega))
  unfold span
  refine BitVec.eq_of_toNat_eq ?_
  rw [BitVec.toNat_add, BitVec.toNat_sub, BitVec.toNat_ofNat, BitVec.toNat_ofNat, BitVec.toNat_ofNat, BitVec.toNat_ofNat]
  omega

/-- The ranks as the kernels read them. -/
theorem rank_apply (c : Dev nD) (i : S400x800x1.Idx) (n : ℕ) (hn : n = (i 0).val * 800 + (i 1).val) :
    V5 m c main_v14 i = BitVec.ofNat 32 (rk (ids m c) n) := by
  rw [V5_v14, show V4 m c main_v6 = ranksOf (F := F) (ids m c) from (V4_of m c main_v6 (by decide)).trans ((V3_of m c main_v6 (by decide)).trans (V2_v6 m c))]
  have h0 : (i 0).val < 400 := (i 0).isLt
  have h1 : (i 1).val < 800 := (i 1).isLt
  have h2 : (i 2).val < 1 := (i 2).isLt
  have hlt : n < 320000 := by omega
  rw [eq_ix3 i]
  exact (Routing.cast13 _ shapeCasts_S320000_S400x800x1 (i 0) (i 1) (i 2) ⟨n, hlt⟩ (by show n = _; omega)).trans (ranksOf_apply (ids m c) ⟨n, hlt⟩)

theorem word0_apply (T : Vec F S400 .i32) (i : grid0.Coords) (h2 : k0_cond2 i = 1#1) (ht : (i 0).val < 400) : word0 T i h2 = T (ix1 ⟨(i 0).val, ht⟩) := by
  refine congrArg T (funext fun a => Fin.ext ?_)
  match a with
  | ⟨0, _⟩ =>
    show (k0_off1 i) 0 + 1 * 0 = (i 0).val
    rw [k0_off1_eq]
    rfl

theorem word2_apply (T : Vec F S400 .i32) (i : grid2.Coords) (ht : (i 0).val < 400) : word2 T i = T (ix1 ⟨(i 0).val, ht⟩) := by
  refine congrArg T (funext fun a => Fin.ext ?_)
  match a with
  | ⟨0, _⟩ =>
    show (k2_off1 i) 0 + 1 * 0 = (i 0).val
    rw [k2_off1_eq]
    rfl

/-- Windows that start at a multiple of eight below 10000 lie inside the kernels' buffers. -/
theorem fits_of (base span : Vec F S400 .i32)
    (key : ∀ t : Fin 400, 8 ∣ (show BitVec 32 from base (ix1 t)).toNat ∧ (show BitVec 32 from base (ix1 t)).toNat < 10000) : Fits base span := by
  refine ⟨fun i h2 => ?_, fun i h2 => ?_, fun i => ?_, fun i => ?_⟩
  · have ht : (i 0).val < 400 := by have := k0_off1_inb i h2 0; rw [k0_off1_eq] at this; exact this
    rw [word0_apply _ i h2 ht, word0_apply _ i h2 ht]
    obtain ⟨a, b⟩ := key ⟨_, ht⟩
    refine ⟨fun _ _ => a, fun _ _ q => ?_⟩
    match q with
    | ⟨0, _⟩ => show (show BitVec 32 from base (ix1 ⟨_, ht⟩)).toNat + 64 ≤ 10808; omega
    | ⟨1, _⟩ => exact le_refl (384 : ℕ)
  · have ht : (i 0).val < 400 := by have := k0_off1_inb i h2 0; rw [k0_off1_eq] at this; exact this
    rw [word0_apply _ i h2 ht, word0_apply _ i h2 ht]
    obtain ⟨a, b⟩ := key ⟨_, ht⟩
    refine ⟨fun _ _ => a, fun _ _ q => ?_⟩
    match q with
    | ⟨0, _⟩ => show (show BitVec 32 from base (ix1 ⟨_, ht⟩)).toNat + 808 ≤ 10808; omega
    | ⟨1, _⟩ => exact le_refl (384 : ℕ)
  · have ht : (i 0).val < 400 := (i 0).isLt
    rw [word2_apply _ i ht, word2_apply _ i ht]
    obtain ⟨a, b⟩ := key ⟨_, ht⟩
    refine ⟨fun _ => a, fun _ q => ?_⟩
    match q with
    | ⟨0, _⟩ => show (show BitVec 32 from base (ix1 ⟨_, ht⟩)).toNat + 64 ≤ 10808; omega
    | ⟨1, _⟩ => exact le_refl (256 : ℕ)
  · have ht : (i 0).val < 400 := (i 0).isLt
    rw [word2_apply _ i ht, word2_apply _ i ht]
    obtain ⟨a, b⟩ := key ⟨_, ht⟩
    refine ⟨fun _ => a, fun _ q => ?_⟩
    match q with
    | ⟨0, _⟩ => show (show BitVec 32 from base (ix1 ⟨_, ht⟩)).toNat + 808 ≤ 10808; omega
    | ⟨1, _⟩ => exact le_refl (256 : ℕ)

/-- A start word read as a number. -/
theorem start_of (base : Vec F S400 .i32) (t : Fin 400) (n : ℕ) (hb : base (ix1 t) = BitVec.ofNat 32 n) (hd : 8 ∣ n) (hn : n < 10000) :
    8 ∣ (show BitVec 32 from base (ix1 t)).toNat ∧ (show BitVec 32 from base (ix1 t)).toNat < 10000 := by
  have e : (show BitVec 32 from base (ix1 t)).toNat = n := by
    rw [show (show BitVec 32 from base (ix1 t)) = BitVec.ofNat 32 n from hb, BitVec.toNat_ofNat]; omega
  rw [e]; exact ⟨hd, hn⟩

/-- Every window the kernels address lies inside their buffers, when the index column is ordered. -/
theorem fits (H : Ordered (ids m 0)) : Fits (baseT m) (spanT m) :=
  fits_of _ _ fun t => start_of _ t _ (base_apply m 0 H t) (base_dvd _ _) (base_lt H t.val t.isLt)

end Cert.KernelIdeal.Run

end
-- ==== Proof.Payload.lean ====
/-
  The arithmetic of the three kernels read at one entry, over the extended reals.
-/
module

public import proofs.«01_k».proof.Proof.Bodies
public import Idealize.ShloMosaic.Lib.Pointwise

@[expose] public section

set_option maxRecDepth 16384

noncomputable section

namespace Cert.Proof.Value

open Cert.KernelIdeal hiding ix2 pre2
open Idealize.ShloMosaic

/-- The word a row's rank is compared by: one where the rank minus the window's start is `k`, else zero. -/
def hit (r b : BitVec 32) (k : ℕ) : EReal :=
  FloatOps.sitofp (F := Ideal) .f32 (BitVec.setWidth 32 (IntOp.cmpi .eq (IntOp.subi r b) (BitVec.ofNat 32 k)))

/-- For ranks at or past the window's start the comparison is of natural numbers. -/
theorem hit_eq (R B k : ℕ) (h : B ≤ R) (hR : R < 2 ^ 31) (hk : k < 2 ^ 31) :
    hit (BitVec.ofNat 32 R) (BitVec.ofNat 32 B) k = if R = B + k then 1 else 0 := by
  have e : IntOp.subi (BitVec.ofNat 32 R) (BitVec.ofNat 32 B) = BitVec.ofNat 32 (R - B) := by
    unfold IntOp.subi
    apply BitVec.eq_of_toNat_eq
    rw [BitVec.toNat_sub, BitVec.toNat_ofNat, BitVec.toNat_ofNat, BitVec.toNat_ofNat]
    omega
  have e2 : (BitVec.ofNat 32 (R - B) = BitVec.ofNat 32 k) ↔ R = B + k := by
    rw [← BitVec.toNat_inj, BitVec.toNat_ofNat, BitVec.toNat_ofNat]
    omega
  unfold hit
  rw [e]
  by_cases h' : R = B + k
  · rw [if_pos h', e2.2 h']
    have : IntOp.cmpi .eq (BitVec.ofNat 32 k) (BitVec.ofNat 32 k) = 1#1 := by
      unfold IntOp.cmpi; simp
    rw [this]
    show (((BitVec.setWidth 32 1#1 : BitVec 32).toInt : ℝ) : EReal) = 1
    rw [show (BitVec.setWidth 32 1#1 : BitVec 32).toInt = 1 from by decide]
    simp
  · rw [if_neg h']
    have : IntOp.cmpi .eq (BitVec.ofNat 32 (R - B)) (BitVec.ofNat 32 k) = 0#1 := by
      unfold IntOp.cmpi
      rw [show (BitVec.ofNat 32 (R - B) == BitVec.ofNat 32 k) = false from beq_eq_false_iff_ne.2 fun q => h' (e2.1 q)]
      rfl
    rw [this]
    show (((BitVec.setWidth 32 0#1 : BitVec 32).toInt : ℝ) : EReal) = 0
    rw [show (BitVec.setWidth 32 0#1 : BitVec 32).toInt = 0 from by decide]
    simp

/-- What one row `u` of the data adds to column `d` of its rank's sums: the entry, its square, or one. -/
def feat (u : Fin 128 → EReal) (d : Fin 384) : EReal :=
  if h : d.val < 128 then u ⟨d.val, h⟩
  else if h' : d.val < 256 then u ⟨d.val - 128, by omega⟩ * u ⟨d.val - 128, by omega⟩
  else 1

theorem ite_mul_one (p : Prop) [Decidable p] (y : EReal) : (if p then (1 : EReal) else 0) * y = if p then y else 0 := by
  split
  · rw [one_mul]
  · rw [zero_mul]

/-- A block of 800 rows added to a window of 64 rows of the sums: every row of the window gets the rows of its rank. -/
theorem small_sums (r : Vec Ideal S1x800x1 .i32) (b : Elt Ideal .i32) (x : Vec Ideal S800x128 .f32) (v : Vec Ideal S64x384 .f32)
    (R : Fin 800 → ℕ) (B : ℕ) (hr : ∀ j, r (ix3 0 j 0) = BitVec.ofNat 32 (R j)) (hb : b = BitVec.ofNat 32 B)
    (hB : ∀ j, B ≤ R j) (hR : ∀ j, R j < 2 ^ 31) (k : Fin 64) (d : Fin 384) :
    Gen.k0_pay3 r b x v (ix2 k d) = v (ix2 k d) + ∑ j : Fin 800, if R j = B + k.val then feat (fun e => x (ix2 j e)) d else 0 := by
  have one (j : Fin 800) (y : EReal) : FloatOps.sitofp (F := Ideal) .f32 (BitVec.setWidth 32 (IntOp.cmpi .eq (IntOp.subi (r (ix3 0 j 0)) b)
      (BitVec.ofNat 32 k.val))) * y = if R j = B + k.val then y else 0 := by
    have e := hit_eq (R j) B k.val (hB j) (hR j) (by omega)
    unfold hit at e
    rw [hr j, hb, e, ite_mul_one]
  have one' (j : Fin 800) : FloatOps.sitofp (F := Ideal) .f32 (BitVec.setWidth 32 (IntOp.cmpi .eq (IntOp.subi (r (ix3 0 j 0)) b)
      (BitVec.ofNat 32 k.val))) = if R j = B + k.val then (1 : EReal) else 0 := by
    rw [← one j 1, mul_one]
  pointwise [Gen.k0_pay3, Gen.k0_pay2]
  refine congrArg (v (ix2 k d) + ·) ?_
  unfold feat
  by_cases h : d.val < 256
  · rw [dif_pos h]
    refine Finset.sum_congr rfl fun j _ => ?_
    refine (one j _).trans ?_
    by_cases h' : d.val < 128
    · rw [dif_pos h', dif_pos h']
    · rw [dif_neg h', dif_neg h', dif_pos h]
  · rw [dif_neg h]
    refine Finset.sum_congr rfl fun j _ => ?_
    rw [dif_neg (show ¬ d.val < 128 by omega), dif_neg h]
    exact one' j

/-- A block of 800 rows added to a window of 808 rows of the sums: every row of the window gets the rows of its rank. -/
theorem large_sums (r : Vec Ideal S1x800x1 .i32) (b : Elt Ideal .i32) (x : Vec Ideal S800x128 .f32) (v : Vec Ideal S808x384 .f32)
    (R : Fin 800 → ℕ) (B : ℕ) (hr : ∀ j, r (ix3 0 j 0) = BitVec.ofNat 32 (R j)) (hb : b = BitVec.ofNat 32 B)
    (hB : ∀ j, B ≤ R j) (hR : ∀ j, R j < 2 ^ 31) (k : Fin 808) (d : Fin 384) :
    Gen.k0_pay4 r b x v (ix2 k d) = v (ix2 k d) + ∑ j : Fin 800, if R j = B + k.val then feat (fun e => x (ix2 j e)) d else 0 := by
  have one (j : Fin 800) (y : EReal) : FloatOps.sitofp (F := Ideal) .f32 (BitVec.setWidth 32 (IntOp.cmpi .eq (IntOp.subi (r (ix3 0 j 0)) b)
      (BitVec.ofNat 32 k.val))) * y = if R j = B + k.val then y else 0 := by
    have e := hit_eq (R j) B k.val (hB j) (hR j) (by omega)
    unfold hit at e
    rw [hr j, hb, e, ite_mul_one]
  have one' (j : Fin 800) : FloatOps.sitofp (F := Ideal) .f32 (BitVec.setWidth 32 (IntOp.cmpi .eq (IntOp.subi (r (ix3 0 j 0)) b)
      (BitVec.ofNat 32 k.val))) = if R j = B + k.val then (1 : EReal) else 0 := by
    rw [← one j 1, mul_one]
  pointwise [Gen.k0_pay4, Gen.k0_pay2]
  refine congrArg (v (ix2 k d) + ·) ?_
  unfold feat
  by_cases h : d.val < 256
  · rw [dif_pos h]
    refine Finset.sum_congr rfl fun j _ => ?_
    refine (one j _).trans ?_
    by_cases h' : d.val < 128
    · rw [dif_pos h', dif_pos h']
    · rw [dif_neg h', dif_neg h', dif_pos h]
  · rw [dif_neg h]
    refine Finset.sum_congr rfl fun j _ => ?_
    rw [dif_neg (show ¬ d.val < 128 by omega), dif_neg h]
    exact one' j

/-- A block of 800 rows normalised from a window of 64 rows of scales and shifts: every row by its own rank's. -/
theorem small_norm (r : Vec Ideal S1x800x1 .i32) (b : Elt Ideal .i32) (g : Vec Ideal S64x256 .f32) (x : Vec Ideal S800x128 .f32)
    (j : Fin 800) (R B : ℕ) (hr : r (ix3 0 j 0) = BitVec.ofNat 32 R) (hb : b = BitVec.ofNat 32 B)
    (hB : B ≤ R) (hR : R < 2 ^ 31) (hw : R - B < 64) (d : Fin 128) :
    Gen.k2_pay2 r b g x (ix2 j d) = x (ix2 j d) * g (ix2 ⟨R - B, hw⟩ ⟨d.val, by omega⟩) + g (ix2 ⟨R - B, hw⟩ ⟨128 + d.val, by omega⟩) := by
  have one (k : Fin 64) (y : EReal) : FloatOps.sitofp (F := Ideal) .f32 (BitVec.setWidth 32 (IntOp.cmpi .eq (IntOp.subi (r (ix3 0 j 0)) b)
      (BitVec.ofNat 32 k.val))) * y = if k = (⟨R - B, hw⟩ : Fin 64) then y else 0 := by
    have e := hit_eq R B k.val hB hR (by omega)
    unfold hit at e
    rw [hr, hb, e, ite_mul_one]
    refine if_congr ?_ rfl rfl
    rw [Fin.ext_iff]
    show R = B + k.val ↔ k.val = R - B
    omega
  have pick (f : Fin 64 → EReal) : (∑ k : Fin 64, FloatOps.sitofp (F := Ideal) .f32 (BitVec.setWidth 32 (IntOp.cmpi .eq (IntOp.subi (r (ix3 0 j 0)) b)
      (BitVec.ofNat 32 k.val))) * f k) = f ⟨R - B, hw⟩ := by
    rw [Finset.sum_congr rfl fun k _ => one k (f k), Finset.sum_ite_eq' Finset.univ, if_pos (Finset.mem_univ _)]
  pointwise [Gen.k2_pay2, Gen.k2_pay1]
  exact congrArg₂ (fun p q : EReal => x (ix2 j d) * p + q) (pick fun k => g (ix2 k ⟨d.val, by omega⟩)) (pick fun k => g (ix2 k ⟨128 + d.val, by omega⟩))

/-- A block of 800 rows normalised from a window of 808 rows of scales and shifts: every row by its own rank's. -/
theorem large_norm (r : Vec Ideal S1x800x1 .i32) (b : Elt Ideal .i32) (g : Vec Ideal S808x256 .f32) (x : Vec Ideal S800x128 .f32)
    (j : Fin 800) (R B : ℕ) (hr : r (ix3 0 j 0) = BitVec.ofNat 32 R) (hb : b = BitVec.ofNat 32 B)
    (hB : B ≤ R) (hR : R < 2 ^ 31) (hw : R - B < 808) (d : Fin 128) :
    Gen.k2_pay3 r b g x (ix2 j d) = x (ix2 j d) * g (ix2 ⟨R - B, hw⟩ ⟨d.val, by omega⟩) + g (ix2 ⟨R - B, hw⟩ ⟨128 + d.val, by omega⟩) := by
  have one (k : Fin 808) (y : EReal) : FloatOps.sitofp (F := Ideal) .f32 (BitVec.setWidth 32 (IntOp.cmpi .eq (IntOp.subi (r (ix3 0 j 0)) b)
      (BitVec.ofNat 32 k.val))) * y = if k = (⟨R - B, hw⟩ : Fin 808) then y else 0 := by
    have e := hit_eq R B k.val hB hR (by omega)
    unfold hit at e
    rw [hr, hb, e, ite_mul_one]
    refine if_congr ?_ rfl rfl
    rw [Fin.ext_iff]
    show R = B + k.val ↔ k.val = R - B
    omega
  have pick (f : Fin 808 → EReal) : (∑ k : Fin 808, FloatOps.sitofp (F := Ideal) .f32 (BitVec.setWidth 32 (IntOp.cmpi .eq (IntOp.subi (r (ix3 0 j 0)) b)
      (BitVec.ofNat 32 k.val))) * f k) = f ⟨R - B, hw⟩ := by
    rw [Finset.sum_congr rfl fun k _ => one k (f k), Finset.sum_ite_eq' Finset.univ, if_pos (Finset.mem_univ _)]
  pointwise [Gen.k2_pay3, Gen.k2_pay1]
  exact congrArg₂ (fun p q : EReal => x (ix2 j d) * p + q) (pick fun k => g (ix2 k ⟨d.val, by omega⟩)) (pick fun k => g (ix2 k ⟨128 + d.val, by omega⟩))

/-- The standard deviation a rank's sums give, as the second kernel computes it. -/
def dev (s q n : EReal) : EReal :=
  Ideal.sqrt (max (Ideal.div (max (q - Ideal.div s (max n 1) * s) 0 + Ideal.ofBits FTy.f32 897988541#32) (n - 1)) (Ideal.ofBits FTy.f32 869711765#32))
    + Ideal.ofBits FTy.f32 897988541#32

/-- Where the first sums of a row lie, … -/
theorem start0 (k : Fin 10808) (d : Fin 128) : (Rect.unit (s := S10808x384) ![0, 0] ![10808, 128] Gen.inb_S10808x384_S10808x128_0_0).emb (ix2 k d)
    = ix2 k ⟨d.val, by omega⟩ := funext fun a => Fin.ext (by
  match a with
  | ⟨0, _⟩ => exact (Nat.zero_add _).trans (Nat.one_mul _)
  | ⟨1, _⟩ => exact (Nat.zero_add _).trans (Nat.one_mul _))
/-- the second, -/
theorem start1 (k : Fin 10808) (d : Fin 128) : (Rect.unit (s := S10808x384) ![0, 128] ![10808, 128] Gen.inb_S10808x384_S10808x128_0_128).emb (ix2 k d)
    = ix2 k ⟨128 + d.val, by omega⟩ := funext fun a => Fin.ext (by
  match a with
  | ⟨0, _⟩ => exact (Nat.zero_add _).trans (Nat.one_mul _)
  | ⟨1, _⟩ => exact congrArg (128 + ·) (Nat.one_mul _))
/-- and the count. -/
theorem start2 (k : Fin 10808) : (Rect.unit (s := S10808x384) ![0, 256] ![10808, 1] Gen.inb_S10808x384_S10808x1_0_256).emb (ix2 k 0)
    = ix2 k (256 : Fin 384) := funext fun a => Fin.ext (by
  match a with
  | ⟨0, _⟩ => exact (Nat.zero_add _).trans (Nat.one_mul _)
  | ⟨1, _⟩ => exact congrArg (256 + ·) (Nat.one_mul _))

/-- The scales the second kernel writes. -/
theorem fin_scale (a : Vec Ideal S10808x384 .f32) (w b : Vec Ideal S1x128 .f32) (k : Fin 10808) (d : Fin 128) :
    Run.fin a w b (ix2 k ⟨d.val, by omega⟩)
      = Ideal.div (w (ix2 0 d)) (dev (a (ix2 k ⟨d.val, by omega⟩)) (a (ix2 k ⟨128 + d.val, by omega⟩)) (a (ix2 k (256 : Fin 384)))) := by
  unfold Run.fin dev
  pointwise [Gen.k1_pay1, VecWindow.window]
  rw [start0, start1, start2]

/-- The shifts the second kernel writes. -/
theorem fin_shift (a : Vec Ideal S10808x384 .f32) (w b : Vec Ideal S1x128 .f32) (k : Fin 10808) (d : Fin 128) :
    Run.fin a w b (ix2 k ⟨128 + d.val, by omega⟩)
      = b (ix2 0 d) - Ideal.div (a (ix2 k ⟨d.val, by omega⟩)) (max (a (ix2 k (256 : Fin 384))) 1)
          * Ideal.div (w (ix2 0 d)) (dev (a (ix2 k ⟨d.val, by omega⟩)) (a (ix2 k ⟨128 + d.val, by omega⟩)) (a (ix2 k (256 : Fin 384)))) := by
  unfold Run.fin dev
  pointwise [Gen.k1_pay1, VecWindow.window]
  rw [start0, start1, start2]

end Cert.Proof.Value
-- ==== Proof.Stats.lean ====
/-
  The running sums, read at one entry: after the whole grid a rank's row of sums holds the sums over all rows of that rank.
-/
module

public import proofs.«01_k».proof.Proof.Payload
public import proofs.«01_k».proof.Proof.Host
public import proofs.«01_k».proof.Proof.Run

@[expose] public section

set_option maxRecDepth 16384

noncomputable section

namespace Cert.Proof.Value

open Cert.KernelIdeal hiding ix2 pre2
open Cert.KernelIdeal.Run Cert.Proof.Ranks
open Idealize.ShloMosaic Idealize.ShloMosaic.TcCoe

/-- What a block adds to entry `(k, d)` of the sums. -/
def gain (x : Vec Ideal S800x128 .f32) (R : Fin 800 → ℕ) (k : ℕ) (d : Fin 384) : EReal :=
  ∑ j : Fin 800, if R j = k then feat (fun e => x (ix2 j e)) d else 0

/-- A block none of whose rows has rank `k` adds nothing there. -/
theorem gain_zero (x : Vec Ideal S800x128 .f32) (R : Fin 800 → ℕ) (k : ℕ) (d : Fin 384) (h : ∀ j, R j ≠ k) : gain x R k d = 0 :=
  Finset.sum_eq_zero fun j _ => if_neg (h j)

/-- The window of 64 rows put back: every row of the sums gets what the block adds to it. -/
theorem put_small (r : Vec Ideal S1x800x1 .i32) (b : Elt Ideal .i32) (x : Vec Ideal S800x128 .f32) (a : Vec Ideal S10808x384 .f32)
    (R : Fin 800 → ℕ) (B : ℕ) (hr : ∀ j, r (ix3 0 j 0) = BitVec.ofNat 32 (R j)) (hb : b = BitVec.ofNat 32 B)
    (hB : ∀ j, B ≤ R j) (hS : ∀ j, R j < B + 64) (hlt : B < 10000)
    (inb : ∀ q, (k0_off3 b) q + S64x384.size q ≤ S10808x384.size q) (k : Fin 10808) (d : Fin 384) :
    VecWindow.put a (k0_off3 b) S64x384.size (Gen.k0_pay3 r b x (VecWindow.window a (k0_off3 b) S64x384.size inb)) (ix2 k d)
      = a (ix2 k d) + gain x R k.val d := by
  have e0 : (k0_off3 b) 0 = B := by
    subst hb
    show (BitVec.ofNat 32 B).toNat = B
    rw [BitVec.toNat_ofNat]; omega
  have e1 : (k0_off3 b) 1 = 0 := rfl
  have hs := small_sums r b x (VecWindow.window a (k0_off3 b) S64x384.size inb) R B hr hb hB (fun j => by have := hS j; omega)
  generalize hv : VecWindow.window a (k0_off3 b) S64x384.size inb = v at hs
  generalize Gen.k0_pay3 r b x v = p at hs
  unfold VecWindow.put
  by_cases h : B ≤ k.val ∧ k.val < B + 64
  · have h' : ∀ q, (k0_off3 b) q ≤ ((ix2 k d : S10808x384.Idx) q).val ∧ ((ix2 k d : S10808x384.Idx) q).val < (k0_off3 b) q + S64x384.size q := fun q => by
      match q with
      | ⟨0, _⟩ => exact (by show (k0_off3 b) 0 ≤ k.val ∧ k.val < (k0_off3 b) 0 + 64; rw [e0]; exact h)
      | ⟨1, _⟩ => exact ⟨Nat.zero_le _, (by show d.val < 0 + 384; omega)⟩
    rw [dif_pos h']
    have ei : (Rect.unitLocal (s := S10808x384) (off := k0_off3 b) (size := S64x384.size) (ix2 k d) h' : S64x384.Idx)
        = ix2 (⟨k.val - B, by omega⟩ : Fin 64) d := funext fun q => Fin.ext (by
      match q with
      | ⟨0, _⟩ => exact (by show k.val - (k0_off3 b) 0 = k.val - B; rw [e0])
      | ⟨1, _⟩ => exact Nat.sub_zero _)
    refine (congrArg p ei).trans ((hs _ _).trans ?_)
    have ev : v (ix2 (⟨k.val - B, by omega⟩ : Fin 64) d) = a (ix2 k d) := by
      rw [← hv]
      refine congrArg a (funext fun q => Fin.ext ?_)
      match q with
      | ⟨0, _⟩ => exact (by show (k0_off3 b) 0 + 1 * (k.val - B) = k.val; rw [e0]; omega)
      | ⟨1, _⟩ => exact (by show 0 + 1 * d.val = d.val; omega)
    rw [ev]
    unfold gain
    rw [show B + (⟨k.val - B, by omega⟩ : Fin 64).val = k.val from by show B + (k.val - B) = k.val; omega]
  · rw [dif_neg fun h' => h (by
      have q := h' 0
      change (k0_off3 b) 0 ≤ k.val ∧ k.val < (k0_off3 b) 0 + 64 at q
      rw [e0] at q; exact q), gain_zero x R k.val d (fun j q => h (by have := hB j; have := hS j; omega)), add_zero]

/-- The window of 808 rows put back: every row of the sums gets what the block adds to it. -/
theorem put_large (r : Vec Ideal S1x800x1 .i32) (b : Elt Ideal .i32) (x : Vec Ideal S800x128 .f32) (a : Vec Ideal S10808x384 .f32)
    (R : Fin 800 → ℕ) (B : ℕ) (hr : ∀ j, r (ix3 0 j 0) = BitVec.ofNat 32 (R j)) (hb : b = BitVec.ofNat 32 B)
    (hB : ∀ j, B ≤ R j) (hS : ∀ j, R j < B + 808) (hlt : B < 10000)
    (inb : ∀ q, (k0_off6 b) q + S808x384.size q ≤ S10808x384.size q) (k : Fin 10808) (d : Fin 384) :
    VecWindow.put a (k0_off6 b) S808x384.size (Gen.k0_pay4 r b x (VecWindow.window a (k0_off6 b) S808x384.size inb)) (ix2 k d)
      = a (ix2 k d) + gain x R k.val d := by
  have e0 : (k0_off6 b) 0 = B := by
    subst hb
    show (BitVec.ofNat 32 B).toNat = B
    rw [BitVec.toNat_ofNat]; omega
  have e1 : (k0_off6 b) 1 = 0 := rfl
  have hs := large_sums r b x (VecWindow.window a (k0_off6 b) S808x384.size inb) R B hr hb hB (fun j => by have := hS j; omega)
  generalize hv : VecWindow.window a (k0_off6 b) S808x384.size inb = v at hs
  generalize Gen.k0_pay4 r b x v = p at hs
  unfold VecWindow.put
  by_cases h : B ≤ k.val ∧ k.val < B + 808
  · have h' : ∀ q, (k0_off6 b) q ≤ ((ix2 k d : S10808x384.Idx) q).val ∧ ((ix2 k d : S10808x384.Idx) q).val < (k0_off6 b) q + S808x384.size q := fun q => by
      match q with
      | ⟨0, _⟩ => exact (by show (k0_off6 b) 0 ≤ k.val ∧ k.val < (k0_off6 b) 0 + 808; rw [e0]; exact h)
      | ⟨1, _⟩ => exact ⟨Nat.zero_le _, (by show d.val < 0 + 384; omega)⟩
    rw [dif_pos h']
    have ei : (Rect.unitLocal (s := S10808x384) (off := k0_off6 b) (size := S808x384.size) (ix2 k d) h' : S808x384.Idx)
        = ix2 (⟨k.val - B, by omega⟩ : Fin 808) d := funext fun q => Fin.ext (by
      match q with
      | ⟨0, _⟩ => exact (by show k.val - (k0_off6 b) 0 = k.val - B; rw [e0])
      | ⟨1, _⟩ => exact Nat.sub_zero _)
    refine (congrArg p ei).trans ((hs _ _).trans ?_)
    have ev : v (ix2 (⟨k.val - B, by omega⟩ : Fin 808) d) = a (ix2 k d) := by
      rw [← hv]
      refine congrArg a (funext fun q => Fin.ext ?_)
      match q with
      | ⟨0, _⟩ => exact (by show (k0_off6 b) 0 + 1 * (k.val - B) = k.val; rw [e0]; omega)
      | ⟨1, _⟩ => exact (by show 0 + 1 * d.val = d.val; omega)
    rw [ev]
    unfold gain
    rw [show B + (⟨k.val - B, by omega⟩ : Fin 808).val = k.val from by show B + (k.val - B) = k.val; omega]
  · rw [dif_neg fun h' => h (by
      have q := h' 0
      change (k0_off6 b) 0 ≤ k.val ∧ k.val < (k0_off6 b) 0 + 808 at q
      rw [e0] at q; exact q), gain_zero x R k.val d (fun j q => h (by have := hB j; have := hS j; omega)), add_zero]

/-- A small number as a signed word. -/
theorem toInt_small (S : ℕ) (h : S < 2 ^ 31) : (BitVec.ofNat 32 S).toInt = S := StableHlo.Predicate.toInt_ofNat_small S h

/-- One point of the first kernel, read at an entry of the sums. -/
theorem sums_apply (base span : Vec Ideal S400 .i32) (H : Fits base span) (i : grid0.Coords) (h2 : k0_cond2 i = 1#1)
    (r : Vec Ideal S1x800x1 .i32) (x : Vec Ideal S800x128 .f32) (a : Vec Ideal S10808x384 .f32)
    (R : Fin 800 → ℕ) (B S : ℕ) (hr : ∀ j, r (ix3 0 j 0) = BitVec.ofNat 32 (R j))
    (hb : word0 base i h2 = BitVec.ofNat 32 B) (hs : word0 span i h2 = BitVec.ofNat 32 S)
    (hB : ∀ j, B ≤ R j) (hS : ∀ j, R j < B + S) (h8 : S ≤ 808) (hlt : B < 10000) (k : Fin 10808) (d : Fin 384) :
    sums base span H i r x a (ix2 k d) = (if k0_cond1 i = 1#1 then 0 else a (ix2 k d)) + gain x R k.val d := by
  have e0 : (if k0_cond1 i = 1#1 then (0 : EReal) else a (ix2 k d)) = (if k0_cond1 i = 1#1 then Gen.k0_pay1 (F := Ideal) else a) (ix2 k d) := by
    by_cases h : k0_cond1 i = 1#1
    · rw [if_pos h, if_pos h]
      pointwise [Gen.k0_pay1]
    · rw [if_neg h, if_neg h]
  rw [e0]
  unfold sums
  rw [dif_pos h2]
  generalize (if k0_cond1 i = 1#1 then Gen.k0_pay1 (F := Ideal) else a) = z
  have hi : (word0 span i h2).toInt = (S : ℤ) := by rw [hs]; exact toInt_small S (by omega)
  by_cases hc : S ≤ 64
  · have h3 : k0_cond3 (word0 span i h2) = 1#1 := (Run.small_iff _).2 (by rw [hi]; omega)
    have h4 : ¬ k0_cond4 (word0 span i h2) = 1#1 := fun q => by have := (Run.large_iff _).1 q; rw [hi] at this; omega
    unfold addLarge
    rw [dif_neg h4]
    unfold addSmall
    rw [dif_pos h3]
    exact put_small r _ x z R B hr hb hB (fun j => by have := hS j; omega) hlt _ k d
  · have h3 : ¬ k0_cond3 (word0 span i h2) = 1#1 := fun q => by have := (Run.small_iff _).1 q; rw [hi] at this; omega
    have h4 : k0_cond4 (word0 span i h2) = 1#1 := (Run.large_iff _).2 (by rw [hi]; omega)
    unfold addLarge
    rw [dif_pos h4]
    unfold addSmall
    rw [dif_neg h3]
    exact put_large r _ x z R B hr hb hB (fun j => by have := hS j; omega) hlt _ k d

/-! ## The whole grid -/

/-- Row `i` of the data, zero past its end. -/
def rowAt (X : Vec Ideal S320000x128 .f32) (i : ℕ) : Fin 128 → EReal := fun e => if h : i < 320000 then X (ix2 ⟨i, h⟩ e) else 0

variable (m : (ℓ : Loc nD τ sig) → Buf (Elt Ideal) ℓ)

/-- The data the program is launched with. -/
abbrev xs (c : Dev nD) : Vec Ideal S320000x128 .f32 := m (c, main_arg0)

theorem V5_x (c : Dev nD) : Gen.V5 m c main_arg0 = xs m c :=
  ((Gen.V5_of m c main_arg0 (by decide)).trans ((Gen.V4_of m c main_arg0 (by decide)).trans ((Gen.V3_of m c main_arg0 (by decide)).trans
    ((Gen.V2_of m c main_arg0 (by decide)).trans (Gen.V1_of m c main_arg0 (by decide))))))

theorem pos0 : ∀ t : Fin grid0.N, (grid0.coords t 0).val = t.val := by decide +kernel

/-- A table's word at a point is its entry there. -/
theorem word_at (T : Vec Ideal S400 .i32) (t : Fin grid0.N) (ht : t.val < 400) (h2 : k0_cond2 (grid0.coords t) = 1#1) (v : BitVec 32)
    (h : T (ValueIdx.ix1 (⟨t.val, ht⟩ : Fin 400)) = v) : word0 T (grid0.coords t) h2 = v := by
  have hp : (grid0.coords t 0).val < 400 := by rw [pos0]; exact ht
  rw [word0_apply T _ h2 hp, ← h]
  exact congrArg (fun q : Fin 400 => T (ValueIdx.ix1 q)) (Fin.ext (pos0 t))

/-- One point of the first kernel over the program's own blocks. -/
theorem acc_step (H : Ordered (ids m 0)) (c : Dev nD) (t : Fin grid0.N) (ht : t.val < 400) (k : Fin 10808) (d : Fin 384) :
    acc m (fits m H) c (t.val + 1) (ix2 k d) = (if t.val = 0 then 0 else acc m (fits m H) c t.val (ix2 k d))
      + ∑ j ∈ Finset.range 800, if rk (ids m c) (t.val * 800 + j) = k.val then feat (rowAt (xs m c) (t.val * 800 + j)) d else 0 := by
  obtain rfl : c = 0 := Subsingleton.elim _ _
  have h2 : k0_cond2 (grid0.coords t) = 1#1 := (cond0 t).2.2 ht
  rw [acc_succ]
  have w := fun j : Fin 800 => in_window H t.val j.val j.isLt
  refine (sums_apply _ _ (fits m H) (grid0.coords t) h2 _ _ _ (fun j => rk (ids m 0) (t.val * 800 + j.val)) (base (ids m 0) t.val) (span (ids m 0) t.val)
    (fun j => (rk0_apply m 0 t ht _).trans (rank_apply m 0 _ _ rfl)) ?_ ?_ (fun j => (w j).1) (fun j => (w j).2.1) (w 0).2.2 (base_lt H _ ht) k d).trans ?_
  · exact word_at _ t ht h2 _ (base_apply m 0 H ⟨t.val, ht⟩)
  · exact word_at _ t ht h2 _ (span_apply m 0 H ⟨t.val, ht⟩)
  · refine congrArg₂ (· + ·) (if_congr (cond0 t).1 rfl rfl) ?_
    rw [Finset.sum_range]
    refine Finset.sum_congr rfl fun j _ => ?_
    refine if_congr Iff.rfl (congrArg (fun u => feat u d) (funext fun e => ?_)) rfl
    have hj := j.isLt
    unfold rowAt
    rw [dif_pos (show t.val * 800 + j.val < 320000 by omega), xb0_apply m 0 t ht, V5_x]
    refine congrArg (xs m 0) (funext fun q => ?_)
    match q with
    | ⟨0, _⟩ => rfl
    | ⟨1, _⟩ => rfl

/-- The running sums after `n + 1` blocks. -/
theorem acc_apply (H : Ordered (ids m 0)) (c : Dev nD) (n : ℕ) (hn : n < 400) (k : Fin 10808) (d : Fin 384) :
    acc m (fits m H) c (n + 1) (ix2 k d)
      = ∑ i ∈ Finset.range ((n + 1) * 800), if rk (ids m c) i = k.val then feat (rowAt (xs m c) i) d else 0 := by
  induction n with
  | zero =>
    refine (acc_step m H c ⟨0, by rw [show grid0.N = 401 from Gen.N_0]; omega⟩ hn k d).trans ?_
    rw [if_pos rfl, zero_add]
    simp only [Nat.zero_mul, Nat.zero_add, Nat.one_mul]
  | succ n ih =>
    refine (acc_step m H c ⟨n + 1, by rw [show grid0.N = 401 from Gen.N_0]; omega⟩ hn k d).trans ?_
    rw [if_neg (Nat.succ_ne_zero n)]
    rw [show (n + 1 + 1) * 800 = (n + 1) * 800 + 800 by omega, Finset.sum_range_add]
    exact congrArg (· + _) (ih (by omega))

/-- The sums the second kernel reads: for every rank and column, the sum over all rows of that rank. -/
theorem acc_final (H : Ordered (ids m 0)) (c : Dev nD) (k : Fin 10808) (d : Fin 384) :
    acc m (fits m H) c 401 (ix2 k d)
      = ∑ i : Fin 320000, if rk (ids m c) i.val = k.val then feat (fun e => xs m c (ix2 i e)) d else 0 := by
  have hlt : 400 < grid0.N := by rw [show grid0.N = 401 from Gen.N_0]; omega
  have h2 : ¬ k0_cond2 (grid0.coords ⟨400, hlt⟩) = 1#1 := fun q => absurd ((cond0 _).2.1 q) (lt_irrefl 400)
  have h1 : ¬ k0_cond1 (grid0.coords ⟨400, hlt⟩) = 1#1 := fun q => absurd ((cond0 _).1.1 q) (by show ¬ 400 = 0; decide)
  have e : acc m (fits m H) c 401 = acc m (fits m H) c 400 := by
    refine (acc_succ m (fits m H) c ⟨400, hlt⟩).trans ?_
    unfold sums
    rw [dif_neg h2, if_neg h1]
  rw [e]
  refine (acc_apply m H c 399 (by omega) k d).trans ?_
  rw [show (399 + 1) * 800 = 320000 from rfl, Finset.sum_range]
  refine Finset.sum_congr rfl fun i _ => if_congr Iff.rfl (congrArg (fun u => feat u d) (funext fun e => dif_pos i.isLt)) rfl

end Cert.Proof.Value

end
-- ==== Proof.Apply.lean ====
/-
  The kernel's output array, read at one entry: the row's entry scaled and shifted by what the sums of its rank give.
-/
module

public import proofs.«01_k».proof.Proof.Stats

@[expose] public section

set_option maxRecDepth 16384

noncomputable section

namespace Cert.Proof.Value

open Cert.KernelIdeal hiding ix2 pre2
open Cert.KernelIdeal.Run Cert.Proof.Ranks
open Idealize.ShloMosaic Idealize.ShloMosaic.TcCoe

/-- A row normalised from the window of 64 rows that holds its rank. -/
theorem take_small (r : Vec Ideal S1x800x1 .i32) (b : Elt Ideal .i32) (x : Vec Ideal S800x128 .f32) (g : Vec Ideal S10808x256 .f32)
    (j : Fin 800) (R B : ℕ) (hr : r (ix3 0 j 0) = BitVec.ofNat 32 R) (hb : b = BitVec.ofNat 32 B)
    (hB : B ≤ R) (hS : R < B + 64) (hlt : B < 10000) (hR : R < 10808)
    (inb : ∀ q, (k2_off3 b) q + S64x256.size q ≤ S10808x256.size q) (d : Fin 128) :
    Gen.k2_pay2 r b (VecWindow.window g (k2_off3 b) S64x256.size inb) x (ix2 j d)
      = x (ix2 j d) * g (ix2 (⟨R, hR⟩ : Fin 10808) ⟨d.val, by omega⟩) + g (ix2 (⟨R, hR⟩ : Fin 10808) ⟨128 + d.val, by omega⟩) := by
  have e0 : (k2_off3 b) 0 = B := by
    subst hb
    show (BitVec.ofNat 32 B).toNat = B
    rw [BitVec.toNat_ofNat]; omega
  have e1 : (k2_off3 b) 1 = 0 := rfl
  have hs := small_norm r b (VecWindow.window g (k2_off3 b) S64x256.size inb) x j R B hr hb hB (by omega) (by omega) d
  have ev (k : Fin 256) : VecWindow.window g (k2_off3 b) S64x256.size inb (ix2 (⟨R - B, by omega⟩ : Fin 64) k) = g (ix2 (⟨R, hR⟩ : Fin 10808) k) := by
    refine congrArg g (funext fun q => Fin.ext ?_)
    match q with
    | ⟨0, _⟩ => exact (by show (k2_off3 b) 0 + 1 * (R - B) = R; rw [e0]; omega)
    | ⟨1, _⟩ => exact (by show 0 + 1 * k.val = k.val; omega)
  rw [hs, ev, ev]

/-- A row normalised from the window of 808 rows that holds its rank. -/
theorem take_large (r : Vec Ideal S1x800x1 .i32) (b : Elt Ideal .i32) (x : Vec Ideal S800x128 .f32) (g : Vec Ideal S10808x256 .f32)
    (j : Fin 800) (R B : ℕ) (hr : r (ix3 0 j 0) = BitVec.ofNat 32 R) (hb : b = BitVec.ofNat 32 B)
    (hB : B ≤ R) (hS : R < B + 808) (hlt : B < 10000) (hR : R < 10808)
    (inb : ∀ q, (k2_off6 b) q + S808x256.size q ≤ S10808x256.size q) (d : Fin 128) :
    Gen.k2_pay3 r b (VecWindow.window g (k2_off6 b) S808x256.size inb) x (ix2 j d)
      = x (ix2 j d) * g (ix2 (⟨R, hR⟩ : Fin 10808) ⟨d.val, by omega⟩) + g (ix2 (⟨R, hR⟩ : Fin 10808) ⟨128 + d.val, by omega⟩) := by
  have e0 : (k2_off6 b) 0 = B := by
    subst hb
    show (BitVec.ofNat 32 B).toNat = B
    rw [BitVec.toNat_ofNat]; omega
  have e1 : (k2_off6 b) 1 = 0 := rfl
  have hs := large_norm r b (VecWindow.window g (k2_off6 b) S808x256.size inb) x j R B hr hb hB (by omega) (by omega) d
  have ev (k : Fin 256) : VecWindow.window g (k2_off6 b) S808x256.size inb (ix2 (⟨R - B, by omega⟩ : Fin 808) k) = g (ix2 (⟨R, hR⟩ : Fin 10808) k) := by
    refine congrArg g (funext fun q => Fin.ext ?_)
    match q with
    | ⟨0, _⟩ => exact (by show (k2_off6 b) 0 + 1 * (R - B) = R; rw [e0]; omega)
    | ⟨1, _⟩ => exact (by show 0 + 1 * k.val = k.val; omega)
  rw [hs, ev, ev]

/-- One point of the third kernel, read at an entry of its block. -/
theorem normed_apply (base span : Vec Ideal S400 .i32) (H : Fits base span) (i : grid2.Coords)
    (r : Vec Ideal S1x800x1 .i32) (x : Vec Ideal S800x128 .f32) (g : Vec Ideal S10808x256 .f32) (j : Fin 800)
    (R B S : ℕ) (hr : r (ix3 0 j 0) = BitVec.ofNat 32 R) (hb : word2 base i = BitVec.ofNat 32 B) (hs : word2 span i = BitVec.ofNat 32 S)
    (hB : B ≤ R) (hS : R < B + S) (h8 : S ≤ 808) (hlt : B < 10000) (hR : R < 10808) (d : Fin 128) :
    normed base span H i r x g (ix2 j d)
      = x (ix2 j d) * g (ix2 (⟨R, hR⟩ : Fin 10808) ⟨d.val, by omega⟩) + g (ix2 (⟨R, hR⟩ : Fin 10808) ⟨128 + d.val, by omega⟩) := by
  have hi : (word2 span i).toInt = (S : ℤ) := by rw [hs]; exact toInt_small S (by omega)
  unfold normed
  by_cases hc : S ≤ 64
  · rw [dif_pos ((Run.small_iff _).2 (by rw [hi]; omega))]
    exact take_small r _ x g j R B hr hb hB (by omega) hlt hR _ d
  · rw [dif_neg (fun q => by have := (Run.small_iff _).1 q; rw [hi] at this; omega)]
    exact take_large r _ x g j R B hr hb hB (by omega) hlt hR _ d

variable (m : (ℓ : Loc nD τ sig) → Buf (Elt Ideal) ℓ)

/-- The weights the program is launched with. -/
abbrev ws (c : Dev nD) : Vec Ideal S128 .f32 := m (c, main_arg2)
/-- The biases the program is launched with. -/
abbrev bs (c : Dev nD) : Vec Ideal S128 .f32 := m (c, main_arg3)

theorem V5_w (c : Dev nD) (d : Fin 128) : (Gen.V5 m c main_v15 : Vec Ideal S1x128 .f32) (ix2 0 d) = ws m c (ix1 d) := by
  have e : Gen.V5 m c main_v15 = shapeCast S1x128 (Gen.V4 m c main_arg2 : Vec Ideal S128 .f32) Gen.shapeCasts_S128_S1x128 := by
    show StableHlo.after Gen.hostOps0_4 (Gen.V4 m c) (Proc.devRef .tc main_v15) = _
    after_results
    rfl
  rw [e, show (Gen.V4 m c main_arg2 : Vec Ideal S128 .f32) = ws m c from
    (Gen.V4_of m c main_arg2 (by decide)).trans ((Gen.V3_of m c main_arg2 (by decide)).trans
    ((Gen.V2_of m c main_arg2 (by decide)).trans (Gen.V1_of m c main_arg2 (by decide))))]
  pointwise

theorem V5_b (c : Dev nD) (d : Fin 128) : (Gen.V5 m c main_v16 : Vec Ideal S1x128 .f32) (ix2 0 d) = bs m c (ix1 d) := by
  have e : Gen.V5 m c main_v16 = shapeCast S1x128 (Gen.V4 m c main_arg3 : Vec Ideal S128 .f32) Gen.shapeCasts_S128_S1x128 := by
    show StableHlo.after Gen.hostOps0_4 (Gen.V4 m c) (Proc.devRef .tc main_v16) = _
    after_results
    rfl
  rw [e, show (Gen.V4 m c main_arg3 : Vec Ideal S128 .f32) = bs m c from
    (Gen.V4_of m c main_arg3 (by decide)).trans ((Gen.V3_of m c main_arg3 (by decide)).trans
    ((Gen.V2_of m c main_arg3 (by decide)).trans (Gen.V1_of m c main_arg3 (by decide))))]
  pointwise

theorem pos2 : ∀ t : Fin grid2.N, (grid2.coords t 0).val = t.val := by decide +kernel

/-- A table's word at a point of the third kernel is its entry there. -/
theorem word_at2 (T : Vec Ideal S400 .i32) (t : Fin grid2.N) (ht : t.val < 400) (v : BitVec 32)
    (h : T (ValueIdx.ix1 (⟨t.val, ht⟩ : Fin 400)) = v) : word2 T (grid2.coords t) = v := by
  have hp : (grid2.coords t 0).val < 400 := by rw [pos2]; exact ht
  rw [word2_apply T _ hp, ← h]
  exact congrArg (fun q : Fin 400 => T (ValueIdx.ix1 q)) (Fin.ext (pos2 t))

/-- The scales and shifts the third kernel reads. -/
theorem W7_fin (H : Fits (baseT m) (spanT m)) (c : Dev nD) : (W7 m H c main_v18 : Vec Ideal S10808x256 .f32)
    = fin (F := Ideal) (acc m H c 401) (Gen.V5 m c main_v15) (Gen.V5 m c main_v16) := by
  have e17 : W6 m H c main_v17 = acc m H c 401 := Function.update_self ..
  have e15 : W6 m H c main_v15 = Gen.V5 m c main_v15 := Function.update_of_ne (fun e => absurd (Proc.devRef_injective _ e) (by decide)) _ _
  have e16 : W6 m H c main_v16 = Gen.V5 m c main_v16 := Function.update_of_ne (fun e => absurd (Proc.devRef_injective _ e) (by decide)) _ _
  unfold W7
  rw [e17, e15, e16]
  exact Function.update_self ..

/-- The sum of column `d` over the rows of rank `k`. -/
def tot (c : Dev nD) (k : ℕ) (d : Fin 384) : EReal :=
  ∑ i : Fin 320000, if rk (ids m c) i.val = k then feat (fun e => xs m c (ix2 i e)) d else 0

/-- The output at row `i`, column `d`. -/
theorem outv_apply (H : Ordered (ids m 0)) (c : Dev nD) (i : Fin 320000) (d : Fin 128) :
    outv m (fits m H) c (ix2 i d)
      = xs m c (ix2 i d) * Ideal.div (ws m c (ix1 d)) (dev (tot m c (rk (ids m c) i.val) ⟨d.val, by omega⟩) (tot m c (rk (ids m c) i.val) ⟨128 + d.val, by omega⟩) (tot m c (rk (ids m c) i.val) 256))
        + (bs m c (ix1 d) - Ideal.div (tot m c (rk (ids m c) i.val) ⟨d.val, by omega⟩) (max (tot m c (rk (ids m c) i.val) 256) 1)
          * Ideal.div (ws m c (ix1 d)) (dev (tot m c (rk (ids m c) i.val) ⟨d.val, by omega⟩) (tot m c (rk (ids m c) i.val) ⟨128 + d.val, by omega⟩) (tot m c (rk (ids m c) i.val) 256))) := by
  obtain rfl : c = 0 := Subsingleton.elim _ _
  have hi := i.isLt
  have hR : rk (ids m 0) i.val < 10808 := (rk_lt H i.val hi).trans (by omega)
  have hdm : i.val / 800 * 800 + i.val % 800 = i.val := Nat.div_add_mod' i.val 800
  have hm : i.val % 800 < 800 := Nat.mod_lt _ (by decide)
  obtain ⟨t, ht⟩ : ∃ t : Fin grid2.N, t = blockOf (ix2 i d) := ⟨_, rfl⟩
  have tv : t.val = i.val / 800 := by rw [ht]; rfl
  have w := in_window H t.val (i.val % 800) hm
  rw [tv, hdm, ← tv] at w
  show nb2 m (fits m H) 0 (blockOf (ix2 i d)) (inBlock (ix2 i d)) = _
  rw [← ht, show inBlock (ix2 i d) = ix2 (⟨i.val % 800, hm⟩ : Fin 800) d from funext fun q => by
    match q with
    | ⟨0, _⟩ => rfl
    | ⟨1, _⟩ => rfl]
  unfold nb2
  have hr : rk2 m (fits m H) 0 t (ix3 0 (⟨i.val % 800, hm⟩ : Fin 800) 0) = BitVec.ofNat 32 (rk (ids m 0) i.val) := by
    rw [rk2_apply, W7_off m (fits m H) 0 main_v14 (by decide) (by decide)]
    refine rank_apply m 0 _ _ ?_
    show i.val = t.val * 800 + i.val % 800
    omega
  refine (normed_apply _ _ (fits m H) (grid2.coords t) _ _ _ (⟨i.val % 800, hm⟩ : Fin 800) (rk (ids m 0) i.val) (base (ids m 0) t.val) (span (ids m 0) t.val)
    hr (word_at2 _ t (lt0 t) _ (base_apply m 0 H ⟨t.val, lt0 t⟩)) (word_at2 _ t (lt0 t) _ (span_apply m 0 H ⟨t.val, lt0 t⟩)) w.1 w.2.1 w.2.2 (base_lt H _ (lt0 t)) hR d).trans ?_
  rw [fn2_eq, W7_fin, fin_scale, fin_shift, V5_w, V5_b]
  rw [acc_final m H, acc_final m H, acc_final m H]
  have hx : xb2 m (fits m H) 0 t (ix2 (⟨i.val % 800, hm⟩ : Fin 800) d) = xs m 0 (ix2 i d) := by
    rw [xb2_apply, W7_off m (fits m H) 0 main_arg0 (by decide) (by decide), V5_x]
    refine congrArg (xs m 0) (funext fun q => Fin.ext ?_)
    match q with
    | ⟨0, _⟩ => show t.val * 800 + i.val % 800 = i.val; omega
    | ⟨1, _⟩ => rfl
  rw [hx]
  rfl

end Cert.Proof.Value

end
-- ==== Proof.RefOps.lean ====
/-
  The reference's scatters and gathers, read at one entry: a sum over the rows whose index names the entry's row, a count of
  them, and the row an index names.
-/
module

public import proofs.«01_k».proof.Proof.Gen.ReferenceIdeal.Run
public import Idealize.ShloMosaic.Lib.Pointwise
public import Idealize.ShloMosaic.Lib.Routing.Ops
public import Idealize.ShloMosaic.Lib.Routing.OpsPair

@[expose] public section

set_option maxRecDepth 16384

noncomputable section

namespace Cert.Proof.Refs

open Cert.ReferenceIdeal Cert.ReferenceIdeal.Gen
open Idealize.ShloMosaic Idealize.ShloMosaic.TcCoe

/-- Update row `i`, column `b` of the summing scatter lands at row `s`, column `d` exactly when row `i`'s index is `s` and `b = d`. -/
theorem lands (idx : IVec S320000x1 32) (i : Fin 320000) (b d : Fin 128) (s : Fin 10000) :
    scatter_S10000x128_S320000x1_S320000x128_1_0_0_1.resultIdx? (ix2 i b) idx = some (ix2 s d)
      ↔ (idx (ix2 i 0)).toInt = (s.val : Int) ∧ b = d := by
  have e0 : scatter_S10000x128_S320000x1_S320000x128_1_0_0_1.start (ix2 i b) idx 0 = (idx (ix2 i 0)).toInt := by
    refine congrArg (fun q => (idx q).toInt) (funext fun a => Fin.ext ?_)
    match a with
    | ⟨0, _⟩ => rfl
    | ⟨1, _⟩ => rfl
  have e1 : scatter_S10000x128_S320000x1_S320000x128_1_0_0_1.start (ix2 i b) idx 1 = 0 := rfl
  have w0 : scatter_S10000x128_S320000x1_S320000x128_1_0_0_1.window (ix2 i b) 0 = 0 := rfl
  have w1 : scatter_S10000x128_S320000x1_S320000x128_1_0_0_1.window (ix2 i b) 1 = b.val := rfl
  rw [Routing.resultIdx?_eq_some]
  constructor
  · intro h
    have h0 := h 0
    have h1 := h 1
    rw [e0, w0] at h0
    rw [e1, w1] at h1
    change _ = (s.val : Int) at h0
    change _ = (d.val : Int) at h1
    exact ⟨by omega, Fin.ext (by omega)⟩
  · rintro ⟨h, rfl⟩ a
    match a with
    | ⟨0, _⟩ =>
      show scatter_S10000x128_S320000x1_S320000x128_1_0_0_1.start (ix2 i b) idx 0 + ((scatter_S10000x128_S320000x1_S320000x128_1_0_0_1.window (ix2 i b) 0 : ℕ) : Int) = (s.val : Int)
      rw [e0, w0, h]; exact Int.add_zero _
    | ⟨1, _⟩ =>
      show scatter_S10000x128_S320000x1_S320000x128_1_0_0_1.start (ix2 i b) idx 1 + ((scatter_S10000x128_S320000x1_S320000x128_1_0_0_1.window (ix2 i b) 1 : ℕ) : Int) = (b.val : Int)
      rw [e1, w1]; exact Int.zero_add _

/-- The summing scatter at row `s`, column `d`: what was there plus the updates of the rows whose index is `s`. -/
theorem segsum_apply (z : FVec Ideal S10000x128 .f32) (idx : IVec S320000x1 32) (u : FVec Ideal S320000x128 .f32) (s : Fin 10000) (d : Fin 128) :
    Host.scatterAdd scatter_S10000x128_S320000x1_S320000x128_1_0_0_1 z idx u (ix2 s d)
      = z (ix2 s d) + ∑ i : Fin 320000, if (idx (ix2 i 0)).toInt = (s.val : Int) then u (ix2 i d) else (0 : EReal) := by
  show z (ix2 s d) + ∑ j ∈ Finset.univ.filter (fun j => scatter_S10000x128_S320000x1_S320000x128_1_0_0_1.resultIdx? j idx = some (ix2 s d)), u j = _
  refine congrArg (z (ix2 s d) + ·) ?_
  rw [Finset.sum_filter, sum_idx2]
  refine Finset.sum_congr rfl fun i _ => ?_
  have e : ∀ b : Fin 128, (if scatter_S10000x128_S320000x1_S320000x128_1_0_0_1.resultIdx? (ix2 i b) idx = some (ix2 s d) then u (ix2 i b) else (0 : EReal))
      = if b = d then (if (idx (ix2 i 0)).toInt = (s.val : Int) then u (ix2 i d) else 0) else 0 := fun b => by
    have l := lands idx i b d s
    by_cases hb : b = d
    · subst hb
      rw [if_pos rfl]
      exact if_congr (l.trans (and_iff_left rfl)) rfl rfl
    · rw [if_neg hb, if_neg fun q => hb (l.1 q).2]
  rw [Finset.sum_congr rfl fun b _ => e b, Finset.sum_ite_eq' Finset.univ, if_pos (Finset.mem_univ _)]

/-- Update `i` of the counting scatter lands at `s` exactly when its index is `s`. -/
theorem lands1 (idx : IVec S320000x1 32) (i : Fin 320000) (s : Fin 10000) :
    scatter_S10000_S320000x1_S320000_n_0_0_1.resultIdx? (ix1 i) idx = some (ix1 s) ↔ (idx (ix2 i 0)).toInt = (s.val : Int) := by
  have e0 : scatter_S10000_S320000x1_S320000_n_0_0_1.start (ix1 i) idx 0 = (idx (ix2 i 0)).toInt := by
    refine congrArg (fun q => (idx q).toInt) (funext fun a => Fin.ext ?_)
    match a with
    | ⟨0, _⟩ => rfl
    | ⟨1, _⟩ => rfl
  have w0 : scatter_S10000_S320000x1_S320000_n_0_0_1.window (ix1 i) 0 = 0 := rfl
  rw [Routing.resultIdx?_eq_some]
  constructor
  · intro h
    have h0 := h 0
    rw [e0, w0] at h0
    change _ = (s.val : Int) at h0
    omega
  · intro h a
    match a with
    | ⟨0, _⟩ =>
      show scatter_S10000_S320000x1_S320000_n_0_0_1.start (ix1 i) idx 0 + ((scatter_S10000_S320000x1_S320000_n_0_0_1.window (ix1 i) 0 : ℕ) : Int) = (s.val : Int)
      rw [e0, w0, h]; exact Int.add_zero _

/-- Adding one for every member of a list that has a property counts them. -/
theorem fold_ones {ι : Type} (P : ι → Prop) [DecidablePred P] (l : List ι) (z : ℕ) :
    l.foldl (fun a n => if P n then IntOp.addi a 1#32 else a) (BitVec.ofNat 32 z) = BitVec.ofNat 32 (z + l.countP (fun n => decide (P n))) := by
  induction l generalizing z with
  | nil => simp
  | cons n l ih =>
    rw [List.foldl_cons, List.countP_cons]
    by_cases h : P n
    · rw [if_pos h, if_pos (decide_eq_true h)]
      rw [show IntOp.addi (BitVec.ofNat 32 z) 1#32 = BitVec.ofNat 32 (z + 1) from (BitVec.ofNat_add z 1).symm, ih]
      congr 1; omega
    · rw [if_neg h, if_neg (by simpa using h), ih, Nat.add_zero]

/-- The counting scatter at `s`: the number of rows whose index is `s`. -/
theorem count_apply (z : IVec S10000 32) (hz : ∀ j, z j = 0#32) (idx : IVec S320000x1 32) (u : IVec S320000 32) (hu : ∀ j, u j = 1#32) (s : Fin 10000) :
    Host.scatter scatter_S10000_S320000x1_S320000_n_0_0_1 IntOp.addi z idx u (ix1 s)
      = BitVec.ofNat 32 (Finset.univ.filter fun i : Fin 320000 => (idx (ix2 i 0)).toInt = (s.val : Int)).card := by
  rw [Routing.scatter_at, hz]
  have e : (fun (a : BitVec 32) (n : Fin S320000.numel) => if scatter_S10000_S320000x1_S320000_n_0_0_1.resultIdx? (S320000.rowMajor.symm n) idx = some (ix1 s)
        then IntOp.addi a (u (S320000.rowMajor.symm n)) else a)
      = fun a n => if (idx (ix2 (n.cast (Routing.numel1 320000)) 0)).toInt = (s.val : Int) then IntOp.addi a 1#32 else a := by
    funext a n
    rw [hu]
    refine if_congr ?_ rfl rfl
    rw [show S320000.rowMajor.symm n = ix1 (n.cast (Routing.numel1 320000)) from Routing.symm1 n]
    exact lands1 idx _ s
  rw [e]
  refine (fold_ones (fun n : Fin S320000.numel => (idx (ix2 (n.cast (Routing.numel1 320000)) 0)).toInt = (s.val : Int)) _ 0).trans ?_
  rw [Nat.zero_add]
  refine congrArg (BitVec.ofNat 32) ?_
  rw [List.countP_eq_length_filter]
  have key : (Finset.univ.filter fun n : Fin S320000.numel => (idx (ix2 (n.cast (Routing.numel1 320000)) 0)).toInt = (s.val : Int)).card
      = (Finset.univ.filter fun i : Fin 320000 => (idx (ix2 i 0)).toInt = (s.val : Int)).card := by
    rw [← Fintype.card_subtype, ← Fintype.card_subtype]
    exact Fintype.card_congr ((finCongr (Routing.numel1 320000)).subtypeEquiv fun n => Iff.rfl)
  exact key

end Cert.Proof.Refs

end
-- ==== Proof.Reference.lean ====
/-
  The reference's result, read at one entry: the row's element, centred by its segment's mean, over the segment's deviation,
  scaled and shifted.
-/
module

public import proofs.«01_k».proof.Proof.RefOps
public import proofs.«01_k».proof.Proof.Ranks

@[expose] public section

set_option maxRecDepth 16384

noncomputable section

namespace Cert.Proof.Refs

open Cert.ReferenceIdeal Cert.ReferenceIdeal.Gen
open Cert.Proof.Ranks
open Idealize.ShloMosaic Idealize.ShloMosaic.TcCoe

/-- The column of indices the counting scatter takes. -/
def cIdx (ids : IVec S320000 32) : IVec S320000x1 32 :=
  (broadcastInDim S320000x1 ![0] bcast_S320000_S320000x1_0 (select (cmpi .slt (maxsi (broadcastInDim S320000 ![] bcast_S_S320000 (id (constantI S_ 32 0#32))) ids) (broadcastInDim S320000 ![] bcast_S_S320000 (constantI S_ 32 0#32))) (addi (maxsi (broadcastInDim S320000 ![] bcast_S_S320000 (id (constantI S_ 32 0#32))) ids) (broadcastInDim S320000 ![] bcast_S_S320000 (constantI S_ 32 10000#32))) (maxsi (broadcastInDim S320000 ![] bcast_S_S320000 (id (constantI S_ 32 0#32))) ids)))

/-- The column of indices the gathers take. -/
def gIdx (ids : IVec S320000 32) : IVec S320000x1 32 :=
  (broadcastInDim S320000x1 ![0] bcast_S320000_S320000x1_0 (select (cmpi .slt ids (broadcastInDim S320000 ![] bcast_S_S320000 (constantI S_ 32 0#32))) (addi ids (broadcastInDim S320000 ![] bcast_S_S320000 (constantI S_ 32 10000#32))) ids))

/-- The column of indices the summing scatters take. -/
def sIdx (ids : IVec S320000 32) : IVec S320000x1 32 :=
  (broadcastInDim S320000x1 ![0] bcast_S320000_S320000x1_0 ids)

/-- The sums before any row. -/
def zeros : FVec Ideal S10000x128 .f32 :=
  (broadcastInDim S10000x128 ![] bcast_S_S10000x128 (constant S_ .f32 0x00000000#32))

/-- The counts before any row. -/
def noughts : IVec S10000 32 :=
  (broadcastInDim S10000 ![] bcast_S_S10000 (constantI S_ 32 0#32))

/-- What every row adds to its count. -/
def ones : IVec S320000 32 :=
  (broadcastInDim S320000 ![] bcast_S_S320000 (constantI S_ 32 1#32))

/-- The number of rows of each segment. -/
def tally (ids : IVec S320000 32) : IVec S10000 32 :=
  (Host.scatter scatter_S10000_S320000x1_S320000_n_0_0_1 IntOp.addi noughts (cIdx ids) ones)

/-- The mean of each segment. -/
def means (x : FVec Ideal S320000x128 .f32) (ids : IVec S320000 32) : FVec Ideal S10000x128 .f32 :=
  (Host.divf (Host.scatterAdd scatter_S10000x128_S320000x1_S320000x128_1_0_0_1 zeros (sIdx ids) x) (broadcastInDim S10000x128 ![0, 1] bcast_S10000x1_S10000x128_0_1 (broadcastInDim S10000x1 ![0] bcast_S10000_S10000x1_0 (maximumf (broadcastInDim S10000 ![] bcast_S_S10000 (id (constant S_ .f32 0x3F800000#32))) (sitofp .f32 (tally ids))))))

/-- The rows less their segments' means. -/
def cent (x : FVec Ideal S320000x128 .f32) (ids : IVec S320000 32) : FVec Ideal S320000x128 .f32 :=
  (subf x (Host.gather gather_S10000x128_S320000x1_S320000x128_1_0_n_n_0_1_1128 (means x ids) (gIdx ids)))

/-- The deviation of each segment. -/
def devs (x : FVec Ideal S320000x128 .f32) (ids : IVec S320000 32) : FVec Ideal S10000x128 .f32 :=
  (Host.sqrt (maximumf (broadcastInDim S10000x128 ![] bcast_S_S10000x128 (id (constant S_ .f32 0x33D6BF95#32))) (Host.divf (addf (Host.scatterAdd scatter_S10000x128_S320000x1_S320000x128_1_0_0_1 zeros (sIdx ids) (mulf (cent x ids) (cent x ids))) (broadcastInDim S10000x128 ![] bcast_S_S10000x128 (constant S_ .f32 0x358637BD#32))) (broadcastInDim S10000x128 ![0, 1] bcast_S10000x1_S10000x128_0_1 (subf (broadcastInDim S10000x1 ![0] bcast_S10000_S10000x1_0 (sitofp .f32 (tally ids))) (broadcastInDim S10000x1 ![] bcast_S_S10000x1 (constant S_ .f32 0x3F800000#32)))))))

/-- The normalised rows. -/
def res (x : FVec Ideal S320000x128 .f32) (ids : IVec S320000 32) (w b : FVec Ideal S128 .f32) : FVec Ideal S320000x128 .f32 :=
  addf (mulf (Host.divf (cent x ids) (addf (Host.gather gather_S10000x128_S320000x1_S320000x128_1_0_n_n_0_1_1128 (devs x ids) (gIdx ids)) (broadcastInDim S320000x128 ![] bcast_S_S320000x128 (constant S_ .f32 0x358637BD#32)))) (broadcastInDim S320000x128 ![0, 1] bcast_S1x128_S320000x128_0_1 (broadcastInDim S1x128 ![1] bcast_S128_S1x128_1 w))) (broadcastInDim S320000x128 ![0, 1] bcast_S1x128_S320000x128_0_1 (broadcastInDim S1x128 ![1] bcast_S128_S1x128_1 b))

/-- The reference's value is the normalised rows of its arguments. -/
theorem res_eq (m : (ℓ : Loc nD τ sig) → Buf (Elt Ideal) ℓ) (c : Dev nD) :
    Value.res_main_v62 m c = res (m ((c.tc : Thread nD τ).loc main_arg0)) (m ((c.tc : Thread nD τ).loc main_arg1))
      (m ((c.tc : Thread nD τ).loc main_arg2)) (m ((c.tc : Thread nD τ).loc main_arg3)) := by
  unfold Value.res_main_v62 res cent devs means cent means tally ones noughts zeros sIdx gIdx cIdx
  rfl

/-- A row's index as a number. -/
theorem index_small {ids : IVec S320000 32} (H : Ordered ids) (i : Fin 320000) : (ids (ix1 i)).toNat < 10000 := by
  have h := H.small i.val i.isLt
  rwa [vals_of_lt ids i.val i.isLt] at h

/-- The segment of a row. -/
def seg {ids : IVec S320000 32} (H : Ordered ids) (i : Fin 320000) : Fin 10000 := ⟨(ids (ix1 i)).toNat, index_small H i⟩

/-- A row's index names its segment. -/
theorem index_seg {ids : IVec S320000 32} (H : Ordered ids) (i : Fin 320000) : ids (ix1 i) = BitVec.ofNat 32 (seg H i).val :=
  BitVec.eq_of_toNat_eq (by rw [BitVec.toNat_ofNat, Nat.mod_eq_of_lt (by have := (seg H i).isLt; omega)]; rfl)

/-- A row lies in the segment of another exactly when their indices agree. -/
theorem toInt_seg {ids : IVec S320000 32} (H : Ordered ids) (i j : Fin 320000) :
    (ids (ix1 j)).toInt = ((seg H i).val : Int) ↔ ids (ix1 j) = ids (ix1 i) := by
  have hj := index_small H j
  have e : (ids (ix1 j)).toInt = ((ids (ix1 j)).toNat : Int) := by
    rw [BitVec.toInt_eq_toNat_cond, if_pos (by omega)]
  rw [e]
  constructor
  · intro h
    exact BitVec.eq_of_toNat_eq (Int.ofNat.inj h)
  · intro h
    rw [h]; rfl

/-- The summing scatters take the rows' indices. -/
theorem sIdx_apply (ids : IVec S320000 32) (i : Fin 320000) : sIdx ids (ix2 i 0) = ids (ix1 i) := by
  pointwise [sIdx]

/-- The gathers take the rows' indices. -/
theorem gIdx_apply {ids : IVec S320000 32} (H : Ordered ids) (i : Fin 320000) : gIdx ids (ix2 i 0) = ids (ix1 i) := by
  have h := index_small H i
  have e : gIdx ids (ix2 i 0) = Scalar.select (IntOp.cmpi .slt (ids (ix1 i)) 0#32) (IntOp.addi (ids (ix1 i)) 10000#32) (ids (ix1 i)) := by
    pointwise [gIdx]
  rw [e]
  exact Routing.wrap_of_lt _ _ (by omega)

/-- The counting scatter takes the rows' indices. -/
theorem cIdx_apply {ids : IVec S320000 32} (H : Ordered ids) (i : Fin 320000) : cIdx ids (ix2 i 0) = ids (ix1 i) := by
  have h := index_small H i
  have e : cIdx ids (ix2 i 0) = Scalar.select (IntOp.cmpi .slt (IntOp.maxsi 0#32 (ids (ix1 i))) 0#32) (IntOp.addi (IntOp.maxsi 0#32 (ids (ix1 i))) 10000#32)
      (IntOp.maxsi 0#32 (ids (ix1 i))) := by
    pointwise [cIdx]
    rfl
  have em : IntOp.maxsi 0#32 (ids (ix1 i)) = ids (ix1 i) := by
    generalize ids (ix1 i) = v at h
    have hv := BitVec.toInt_eq_toNat_cond v
    rw [if_pos (by omega)] at hv
    unfold IntOp.maxsi
    have e1 : (0#32 : BitVec 32).toInt = 0 := by decide
    have hs : BitVec.slt v 0#32 = false := by
      simp only [BitVec.slt, decide_eq_false_iff_not, e1]
      omega
    simp [hs]
  rw [e, em]
  exact Routing.wrap_of_lt _ _ (by omega)

/-- How many rows lie in row `i`'s segment. -/
def cnt (ids : IVec S320000 32) (i : Fin 320000) : ℕ := (Finset.univ.filter fun j : Fin 320000 => ids (ix1 j) = ids (ix1 i)).card

/-- The sum, over the rows of row `i`'s segment, of a value of each. -/
def total (ids : IVec S320000 32) (i : Fin 320000) (f : Fin 320000 → EReal) : EReal :=
  ∑ j : Fin 320000, if ids (ix1 j) = ids (ix1 i) then f j else 0

theorem cnt_le (ids : IVec S320000 32) (i : Fin 320000) : cnt ids i ≤ 320000 :=
  (Finset.card_le_univ _).trans (by simp)

/-- The count of a segment, as a float. -/
theorem tally_apply {ids : IVec S320000 32} (H : Ordered ids) (i : Fin 320000) :
    (((tally ids (ix1 (seg H i))).toInt : ℝ) : EReal) = ((cnt ids i : ℝ) : EReal) := by
  have hz : ∀ j, noughts j = 0#32 := fun _ => rfl
  have ho : ∀ j, ones j = 1#32 := fun _ => rfl
  have e : tally ids (ix1 (seg H i)) = BitVec.ofNat 32 (cnt ids i) := by
    refine (count_apply noughts hz (cIdx ids) ones ho (seg H i)).trans (congrArg (BitVec.ofNat 32) ?_)
    unfold cnt
    refine congrArg Finset.card (Finset.filter_congr fun j _ => ?_)
    rw [cIdx_apply H]
    exact toInt_seg H i j
  rw [e]
  have hc := cnt_le ids i
  have ei : (BitVec.ofNat 32 (cnt ids i)).toInt = (cnt ids i : Int) := by
    rw [BitVec.toInt_eq_toNat_cond, BitVec.toNat_ofNat, Nat.mod_eq_of_lt (by omega), if_pos (by omega)]
  rw [ei, Int.cast_natCast]

/-- A summing scatter, read at row `i`'s segment. -/
theorem sums_apply {ids : IVec S320000 32} (H : Ordered ids) (u : FVec Ideal S320000x128 .f32) (i : Fin 320000) (d : Fin 128) :
    Host.scatterAdd scatter_S10000x128_S320000x1_S320000x128_1_0_0_1 zeros (sIdx ids) u (ix2 (seg H i) d) = total ids i fun j => u (ix2 j d) := by
  have hz : zeros (ix2 (seg H i) d) = 0 := by pointwise [zeros]
  refine (segsum_apply zeros (sIdx ids) u (seg H i) d).trans ?_
  rw [hz, zero_add]
  refine Finset.sum_congr rfl fun j _ => ?_
  rw [sIdx_apply]
  exact if_congr (toInt_seg H i j) rfl rfl

/-- A gather reads row `i`'s segment. -/
theorem gather_apply {ids : IVec S320000 32} (H : Ordered ids) (t : FVec Ideal S10000x128 .f32) (i : Fin 320000) (d : Fin 128) :
    Host.gather gather_S10000x128_S320000x1_S320000x128_1_0_n_n_0_1_1128 t (gIdx ids) (ix2 i d) = t (ix2 (seg H i) d) :=
  Routing.gather_row gather_S10000x128_S320000x1_S320000x128_1_0_n_n_0_1_1128 rfl rfl rfl rfl rfl t (gIdx ids) i d (seg H i)
    ((gIdx_apply H i).trans (index_seg H i)) (by decide)

/-- The mean of row `i`'s segment. -/
def mean (x : FVec Ideal S320000x128 .f32) (ids : IVec S320000 32) (i : Fin 320000) (d : Fin 128) : EReal :=
  Ideal.div (total ids i fun j => x (ix2 j d)) (max 1 ((cnt ids i : ℝ) : EReal))

theorem means_apply (x : FVec Ideal S320000x128 .f32) {ids : IVec S320000 32} (H : Ordered ids) (i : Fin 320000) (d : Fin 128) :
    means x ids (ix2 (seg H i) d) = mean x ids i d := by
  have e := sums_apply H x i d
  have t := tally_apply H i
  generalize seg H i = s at e t
  have q : means x ids (ix2 s d) = Ideal.div (Host.scatterAdd scatter_S10000x128_S320000x1_S320000x128_1_0_0_1 zeros (sIdx ids) x (ix2 s d))
      (max 1 (((tally ids (ix1 s)).toInt : ℝ) : EReal)) := by
    unfold means
    generalize Host.scatterAdd scatter_S10000x128_S320000x1_S320000x128_1_0_0_1 zeros (sIdx ids) x = A
    generalize tally ids = T
    pointwise [id]
    try rfl
  rw [q, e, t]
  rfl

theorem cent_apply (x : FVec Ideal S320000x128 .f32) {ids : IVec S320000 32} (H : Ordered ids) (i : Fin 320000) (d : Fin 128) :
    cent x ids (ix2 i d) = x (ix2 i d) - mean x ids i d := by
  have g := gather_apply H (means x ids) i d
  rw [means_apply x H] at g
  unfold cent
  exact congrArg (x (ix2 i d) - ·) g

/-- The deviation of row `i`'s segment. -/
theorem devs_apply (x : FVec Ideal S320000x128 .f32) {ids : IVec S320000 32} (H : Ordered ids) (i : Fin 320000) (d : Fin 128) :
    devs x ids (ix2 (seg H i) d)
      = Ideal.sqrt (max (Ideal.ofBits FTy.f32 869711765#32) (Ideal.div ((total ids i fun j => (x (ix2 j d) - mean x ids j d) * (x (ix2 j d) - mean x ids j d))
          + Ideal.ofBits FTy.f32 897988541#32) (((cnt ids i : ℝ) : EReal) - 1))) := by
  have e := sums_apply H (mulf (cent x ids) (cent x ids)) i d
  have t := tally_apply H i
  generalize seg H i = s at e t
  have q : devs x ids (ix2 s d) = Ideal.sqrt (max (Ideal.ofBits FTy.f32 869711765#32) (Ideal.div
      (Host.scatterAdd scatter_S10000x128_S320000x1_S320000x128_1_0_0_1 zeros (sIdx ids) (mulf (cent x ids) (cent x ids)) (ix2 s d) + Ideal.ofBits FTy.f32 897988541#32)
      ((((tally ids (ix1 s)).toInt : ℝ) : EReal) - 1))) := by
    unfold devs
    generalize Host.scatterAdd scatter_S10000x128_S320000x1_S320000x128_1_0_0_1 zeros (sIdx ids) (mulf (cent x ids) (cent x ids)) = A
    generalize tally ids = T
    pointwise [id]
    try rfl
  rw [q, e, t]
  have r : (total ids i fun j => mulf (cent x ids) (cent x ids) (ix2 j d))
      = total ids i fun j => (x (ix2 j d) - mean x ids j d) * (x (ix2 j d) - mean x ids j d) := by
    refine congrArg (total ids i) (funext fun j => ?_)
    rw [← cent_apply x H]
    rfl
  rw [r]

/-- The reference's result at row `i`, column `d`. -/
theorem res_apply (x : FVec Ideal S320000x128 .f32) {ids : IVec S320000 32} (w b : FVec Ideal S128 .f32) (H : Ordered ids) (i : Fin 320000) (d : Fin 128) :
    res x ids w b (ix2 i d)
      = Ideal.div (x (ix2 i d) - mean x ids i d)
          (Ideal.sqrt (max (Ideal.ofBits FTy.f32 869711765#32) (Ideal.div ((total ids i fun j => (x (ix2 j d) - mean x ids j d) * (x (ix2 j d) - mean x ids j d))
            + Ideal.ofBits FTy.f32 897988541#32) (((cnt ids i : ℝ) : EReal) - 1))) + Ideal.ofBits FTy.f32 897988541#32) * w (ix1 d) + b (ix1 d) := by
  have g := gather_apply H (devs x ids) i d
  rw [devs_apply x H] at g
  have q : res x ids w b (ix2 i d)
      = Ideal.div (cent x ids (ix2 i d)) (Host.gather gather_S10000x128_S320000x1_S320000x128_1_0_n_n_0_1_1128 (devs x ids) (gIdx ids) (ix2 i d)
          + Ideal.ofBits FTy.f32 897988541#32) * w (ix1 d) + b (ix1 d) := by
    unfold res
    generalize Host.gather gather_S10000x128_S320000x1_S320000x128_1_0_n_n_0_1_1128 (devs x ids) (gIdx ids) = A
    generalize cent x ids = C
    pointwise
    try rfl
  rw [q, g, cent_apply x H]

end Cert.Proof.Refs

end
-- ==== Proof.Maths.lean ====
/-
  The two formulas agree: the sum of squared deviations is the sum of squares less the mean times the sum, and scaling then
  shifting is centring, dividing, scaling and shifting.
-/
module

public import Idealize.ShloMosaic.Lib.Pointwise
public import proofs.«01_k».proof.Proof.Payload

@[expose] public section

noncomputable section

namespace Cert.Proof.Maths

open Idealize.ShloMosaic

/-- The constant added to the sums and deviations is a positive number. -/
theorem eps_pos : ∃ e : ℝ, 0 < e ∧ Ideal.ofBits FTy.f32 897988541#32 = ((e : ℝ) : EReal) := by
  refine ⟨8796093 * (2 : ℝ) ^ (-43 : Int), by positivity, ?_⟩
  simp [Ideal.ofBits, Ideal.ieee]

/-- The constant that guards the variances is a positive number. -/
theorem guard_pos : ∃ e : ℝ, 0 < e ∧ Ideal.ofBits FTy.f32 869711765#32 = ((e : ℝ) : EReal) := by
  refine ⟨14073749 * (2 : ℝ) ^ (-47 : Int), by positivity, ?_⟩
  simp [Ideal.ofBits, Ideal.ieee]

/-- A sum of reals over the members with a property, taken in the extended reals. -/
theorem sum_coe {ι : Type} [Fintype ι] (P : ι → Prop) [DecidablePred P] (g : ι → ℝ) :
    (∑ j, if P j then ((g j : ℝ) : EReal) else 0) = ((∑ j ∈ Finset.univ.filter P, g j : ℝ) : EReal) := by
  rw [← Finset.sum_filter]
  induction Finset.univ.filter P using Finset.cons_induction with
  | empty => simp
  | cons a s h ih => rw [Finset.sum_cons, Finset.sum_cons, ih, EReal.coe_add]

/-- The sum of squared deviations from the mean. -/
theorem squares {ι : Type} (s : Finset ι) (f : ι → ℝ) (h : s.card ≠ 0) :
    (∑ j ∈ s, (f j - (∑ i ∈ s, f i) * (1 / (s.card : ℝ))) * (f j - (∑ i ∈ s, f i) * (1 / (s.card : ℝ))))
      = (∑ j ∈ s, f j * f j) - (∑ i ∈ s, f i) * (1 / (s.card : ℝ)) * (∑ i ∈ s, f i) := by
  have hn : (s.card : ℝ) ≠ 0 := Nat.cast_ne_zero.2 h
  generalize hμ : (∑ i ∈ s, f i) * (1 / (s.card : ℝ)) = μ
  have e : (s.card : ℝ) * μ = ∑ i ∈ s, f i := by rw [← hμ]; field_simp
  rw [Finset.sum_congr rfl fun j _ => show (f j - μ) * (f j - μ) = f j * f j - 2 * μ * f j + μ * μ by ring]
  rw [Finset.sum_add_distrib, Finset.sum_sub_distrib, ← Finset.mul_sum, Finset.sum_const, nsmul_eq_mul, ← e]
  ring

/-- Division by infinity gives nought. -/
theorem div_top (w : EReal) : Ideal.div w ⊤ = 0 := by
  unfold Ideal.div
  rw [if_neg EReal.top_ne_zero, EReal.inv_top, mul_zero]

/-- A deviation, guarded from below and lifted, is infinite or a positive number. -/
theorem dev_cases (v : EReal) (c e : ℝ) (hc : 0 < c) (he : 0 < e) :
    Ideal.sqrt (max v (c : EReal)) + (e : EReal) = ⊤ ∨ ∃ r : ℝ, r ≠ 0 ∧ Ideal.sqrt (max v (c : EReal)) + (e : EReal) = (r : EReal) := by
  have key : ∀ u : EReal, (c : EReal) ≤ u → Ideal.sqrt u + (e : EReal) = ⊤ ∨ ∃ r : ℝ, r ≠ 0 ∧ Ideal.sqrt u + (e : EReal) = (r : EReal) := by
    intro u hu
    induction u using EReal.rec with
    | bot => exact absurd (le_bot_iff.1 hu) (EReal.coe_ne_bot c)
    | top => exact Or.inl (EReal.top_add_coe e)
    | coe r =>
      have hr : c ≤ r := EReal.coe_le_coe_iff.1 hu
      refine Or.inr ⟨Real.sqrt r + e, (add_pos_of_nonneg_of_pos (Real.sqrt_nonneg r) he).ne', ?_⟩
      rw [EReal.coe_add]
      refine congrArg (· + (e : EReal)) ?_
      show (if r < 0 then (⊥ : EReal) else ((Real.sqrt r : ℝ) : EReal)) = _
      rw [if_neg (by linarith)]
  exact key _ (le_max_right _ _)

/-- Scaling and shifting is centring, dividing, scaling and shifting. -/
theorem affine (x μ w : ℝ) (b r : EReal) (h : r = ⊤ ∨ ∃ q : ℝ, q ≠ 0 ∧ r = (q : EReal)) :
    (x : EReal) * Ideal.div (w : EReal) r + (b - (μ : EReal) * Ideal.div (w : EReal) r) = Ideal.div ((x : EReal) - (μ : EReal)) r * (w : EReal) + b := by
  rcases h with rfl | ⟨q, hq, rfl⟩
  · rw [div_top, div_top, mul_zero, mul_zero, zero_mul, sub_zero]
  · rw [Ideal.div_coe hq, Ideal.div_coe hq, ← EReal.coe_mul, ← EReal.coe_mul, ← EReal.coe_mul, ← EReal.coe_sub, ← EReal.coe_mul, ← EReal.coe_mul]
    induction b using EReal.rec with
    | bot => simp
    | top => rw [EReal.top_sub_coe, EReal.coe_add_top, EReal.coe_add_top]
    | coe b =>
      rw [← EReal.coe_sub, ← EReal.coe_add, ← EReal.coe_add]
      congr 1
      ring

/-- The two formulas at one element: the kernel's, from the sums `S`, `Q` and `N` over the rows with a property, and the
reference's, from their mean and squared deviations. -/
theorem agree {ι : Type} [Fintype ι] (P : ι → Prop) [DecidablePred P] (n : ℕ) (hn : n = (Finset.univ.filter P).card) (h0 : n ≠ 0)
    (f : ι → ℝ) (x w : ℝ) (b S Q N M T : EReal)
    (hS : S = ∑ j, if P j then ((f j : ℝ) : EReal) else 0)
    (hQ : Q = ∑ j, if P j then ((f j : ℝ) : EReal) * ((f j : ℝ) : EReal) else 0)
    (hN : N = ∑ j, if P j then (1 : EReal) else 0)
    (hM : M = Ideal.div S (max 1 ((n : ℝ) : EReal)))
    (hT : T = ∑ j, if P j then (((f j : ℝ) : EReal) - M) * (((f j : ℝ) : EReal) - M) else 0) :
    (x : EReal) * Ideal.div (w : EReal) (Cert.Proof.Value.dev S Q N) + (b - Ideal.div S (max N 1) * Ideal.div (w : EReal) (Cert.Proof.Value.dev S Q N))
      = Ideal.div ((x : EReal) - M) (Ideal.sqrt (max (Ideal.ofBits FTy.f32 869711765#32)
          (Ideal.div (T + Ideal.ofBits FTy.f32 897988541#32) (((n : ℝ) : EReal) - 1))) + Ideal.ofBits FTy.f32 897988541#32) * (w : EReal) + b := by
  obtain ⟨e, he, hE⟩ := eps_pos
  obtain ⟨c, hc, hC⟩ := guard_pos
  have hn1 : (1 : ℝ) ≤ (n : ℝ) := by exact_mod_cast Nat.one_le_iff_ne_zero.2 h0
  have hnn : (n : ℝ) ≠ 0 := by positivity
  have eN : N = ((n : ℝ) : EReal) := by
    rw [hN, hn, ← EReal.coe_one, sum_coe P fun _ => (1 : ℝ)]
    simp
  have em : max (1 : EReal) ((n : ℝ) : EReal) = ((n : ℝ) : EReal) := max_eq_right (by exact_mod_cast hn1)
  have eS : S = ((∑ j ∈ Finset.univ.filter P, f j : ℝ) : EReal) := by rw [hS, sum_coe]
  have eQ : Q = ((∑ j ∈ Finset.univ.filter P, f j * f j : ℝ) : EReal) := by
    rw [hQ, ← sum_coe]
    exact Finset.sum_congr rfl fun j _ => by rw [EReal.coe_mul]
  obtain ⟨μ, hμ⟩ : ∃ μ : ℝ, μ = (∑ j ∈ Finset.univ.filter P, f j) * (1 / (n : ℝ)) := ⟨_, rfl⟩
  have eM : M = (μ : EReal) := by rw [hM, em, Ideal.div_coe hnn, eS, ← EReal.coe_mul, hμ]
  have eM' : Ideal.div S (max N 1) = (μ : EReal) := by rw [eN, max_comm, ← hM, eM]
  have eT : T = ((∑ j ∈ Finset.univ.filter P, (f j - μ) * (f j - μ) : ℝ) : EReal) := by
    rw [hT, eM, ← sum_coe]
    exact Finset.sum_congr rfl fun j _ => by rw [EReal.coe_mul, EReal.coe_sub]
  have sq := squares (Finset.univ.filter P) f (hn ▸ h0)
  rw [← hn, ← hμ] at sq
  have nn : 0 ≤ ∑ j ∈ Finset.univ.filter P, (f j - μ) * (f j - μ) := Finset.sum_nonneg fun j _ => mul_self_nonneg _
  have eK : max (Q - Ideal.div S (max N 1) * S) 0 = T := by
    rw [eM', eQ, eS, ← EReal.coe_mul, ← EReal.coe_sub, ← sq, ← eT]
    exact max_eq_left (by rw [eT]; exact_mod_cast nn)
  have ed : Cert.Proof.Value.dev S Q N = Ideal.sqrt (max (Ideal.div (T + (e : EReal)) (((n : ℝ) : EReal) - 1)) (c : EReal)) + (e : EReal) := by
    unfold Cert.Proof.Value.dev
    rw [eK, hE, hC, eN]
  rw [ed, eM', eM, hE, hC, max_comm (c : EReal)]
  exact affine x μ w b _ (dev_cases _ c e hc he)

end Cert.Proof.Maths

end
-- ==== Proof.PreFinite.lean ====
/-
  What the second precondition says of the arguments: the index column is ordered, and the rows and the weights are finite.
-/
module

public import proofs.«01_k».proof.Pre_sorted_finite_rows
public import proofs.«01_k».proof.Proof.Pre
public import Idealize.ShloMosaic.Lib.Pointwise

@[expose] public section

noncomputable section

namespace Cert.Proof

open Idealize.ShloMosaic
open Cert.Proof.Ranks

instance sorted_finite_facts : Cert.Pre_sorted_finite_rows.Facts :=
  ⟨by decide, by decide, by decide, by decide, by decide, by decide, by decide, by decide, by decide, by decide, by decide⟩

/-- An extended real of size below infinity is a real. -/
theorem real_of_abs (x : EReal) (h : BitVec.ofBool (decide (max x (-x) < Ideal.ofBits FTy.f32 2139095040#32)) = 1#1) : ∃ r : ℝ, x = (r : EReal) := by
  have ht : Ideal.ofBits FTy.f32 2139095040#32 = ⊤ := by simp [Ideal.ofBits, Ideal.ieee]
  rw [StableHlo.Predicate.ofBool_eq_one_iff, decide_eq_true_eq, ht] at h
  induction x using EReal.rec with
  | bot => exact absurd h (by simp)
  | top => exact absurd h (by simp)
  | coe r => exact ⟨r, rfl⟩

/-- The second precondition at a pair of neighbouring rows and a column. -/
theorem finite_at (x : FVec Ideal ⟨2, ![320000, 128]⟩ .f32) (ids : IVec ⟨1, ![320000]⟩ 32)
    (w b : FVec Ideal ⟨1, ![128]⟩ .f32) (k : Fin 319999) (d : Fin 128) (i j : Fin 320000) (hi : i.val = k.val) (hj : j.val = k.val + 1) :
    Cert.Pre_sorted_finite_rows.fn x ids w b (ix2 k d)
      = IntOp.andi (IntOp.andi
          (IntOp.andi (IntOp.andi (IntOp.cmpi .sge (ids (ix1 i)) 0#32) (IntOp.cmpi .sle (ids (ix1 i)) (ids (ix1 j)))) (IntOp.cmpi .slt (ids (ix1 j)) 10000#32))
          (IntOp.andi (BitVec.ofBool (decide (max (x (ix2 i d)) (-x (ix2 i d)) < Ideal.ofBits FTy.f32 2139095040#32)))
            (BitVec.ofBool (decide (max (x (ix2 j d)) (-x (ix2 j d)) < Ideal.ofBits FTy.f32 2139095040#32)))))
          (BitVec.ofBool (decide (max (w (ix1 d)) (-w (ix1 d)) < Ideal.ofBits FTy.f32 2139095040#32))) := by
  have ei : i = ⟨k.val, Nat.lt_trans k.isLt (by decide)⟩ := Fin.ext hi
  have ej : j = ⟨1 + k.val, Nat.lt_of_lt_of_eq (Nat.add_lt_add_left k.isLt 1) (by decide)⟩ := Fin.ext (hj.trans (Nat.add_comm _ _))
  clear hi hj
  subst ei ej
  pointwise [Cert.Pre_sorted_finite_rows.fn, Cert.Pre_sorted_finite_rows.fn_part1]
  rfl

/-- The second precondition orders the index column and makes the rows and the weights real. -/
theorem sorted_finite_holds (x : FVec Ideal ⟨2, ![320000, 128]⟩ .f32) (ids : IVec ⟨1, ![320000]⟩ 32)
    (w b : FVec Ideal ⟨1, ![128]⟩ .f32) (h : Cert.Pre_sorted_finite_rows.fn x ids w b = fun _ => 1#1) :
    Ordered ids ∧ (∀ (i : Fin 320000) (d : Fin 128), ∃ r : ℝ, x (ix2 i d) = (r : EReal)) ∧ (∀ d : Fin 128, ∃ r : ℝ, w (ix1 d) = (r : EReal)) := by
  have key := fun (k : Fin 319999) (d : Fin 128) (i j : Fin 320000) (hi : i.val = k.val) (hj : j.val = k.val + 1) =>
    (finite_at x ids w b k d i j hi hj).symm.trans (congrFun h (ix2 k d))
  refine ⟨ordered_of ids fun k i j hi hj => ?_, fun i d => ?_, fun d => ?_⟩
  · obtain ⟨h1, -⟩ := IntOp.andi_eq_one.1 (key k 0 i j hi hj)
    obtain ⟨h1, -⟩ := IntOp.andi_eq_one.1 h1
    obtain ⟨h1, h3⟩ := IntOp.andi_eq_one.1 h1
    obtain ⟨h1, h2⟩ := IntOp.andi_eq_one.1 h1
    exact ⟨h1, h2, h3⟩
  · have hi := i.isLt
    rcases Nat.eq_zero_or_pos i.val with h0 | h0
    · obtain ⟨h1, -⟩ := IntOp.andi_eq_one.1 (key ⟨0, by omega⟩ d i ⟨1, by omega⟩ h0 rfl)
      obtain ⟨-, h1⟩ := IntOp.andi_eq_one.1 h1
      exact real_of_abs _ (IntOp.andi_eq_one.1 h1).1
    · obtain ⟨h1, -⟩ := IntOp.andi_eq_one.1 (key ⟨i.val - 1, by omega⟩ d ⟨i.val - 1, by omega⟩ i rfl (by show i.val = i.val - 1 + 1; omega))
      obtain ⟨-, h1⟩ := IntOp.andi_eq_one.1 h1
      exact real_of_abs _ (IntOp.andi_eq_one.1 h1).2
  · exact real_of_abs _ (IntOp.andi_eq_one.1 (key ⟨0, by omega⟩ d ⟨0, by omega⟩ ⟨1, by omega⟩ rfl rfl)).2

end Cert.Proof

end
-- ==== Proof.Algebra.lean ====
/-
  The kernel's output and the reference's are the same array.
-/
module

public import proofs.«01_k».proof.Defs
public import proofs.«01_k».proof.Proof.Apply
public import proofs.«01_k».proof.Proof.Reference
public import proofs.«01_k».proof.Proof.Maths
public import proofs.«01_k».proof.Proof.PreFinite

@[expose] public section

set_option maxRecDepth 16384

noncomputable section

namespace Cert.Proof.Value

open Cert.KernelIdeal hiding ix2 pre2
open Cert.KernelIdeal.Run Cert.Proof.Ranks Cert.Proof.Refs
open Idealize.ShloMosaic Idealize.ShloMosaic.TcCoe Idealize.SL.Sem

/-- The kernel's sums over the rows of a rank are sums over the rows of an index. -/
theorem tot_eq (m : (ℓ : Loc nD τ sig) → Buf (Elt Ideal) ℓ) (c : Dev nD) (H : Ordered (ids m c)) (i : Fin 320000) (d : Fin 384) :
    tot m c (rk (ids m c) i.val) d = ∑ j : Fin 320000, if ids m c (ix1 j) = ids m c (ix1 i) then feat (fun e => xs m c (ix2 j e)) d else 0 := by
  unfold tot
  exact Finset.sum_congr rfl fun j _ => if_congr (rk_eq_iff H j i) rfl rfl

/-- The means of two rows of one segment agree. -/
theorem mean_same (x : FVec Ideal Cert.ReferenceIdeal.S320000x128 .f32) (ids : IVec Cert.ReferenceIdeal.S320000 32) (i j : Fin 320000) (d : Fin 128)
    (h : ids (ix1 j) = ids (ix1 i)) : mean x ids j d = mean x ids i d := by
  unfold mean total cnt
  rw [h]

/-- The kernel's output is the reference's normalised rows. -/
theorem outv_eq (m : (ℓ : Loc nD τ sig) → Buf (Elt Ideal) ℓ) (c : Dev nD) (H : Ordered (ids m 0))
    (hx : ∀ (i : Fin 320000) (d : Fin 128), ∃ r : ℝ, xs m c (ix2 i d) = (r : EReal)) (hw : ∀ d : Fin 128, ∃ r : ℝ, ws m c (ix1 d) = (r : EReal)) :
    outv m (fits m H) c = res (xs m c) (ids m c) (ws m c) (bs m c) := by
  have Hc : Ordered (ids m c) := by
    obtain rfl : c = 0 := Subsingleton.elim _ _
    exact H
  funext q
  obtain ⟨i, d, rfl⟩ : ∃ (i : Fin 320000) (d : Fin 128), q = ix2 i d := ⟨q 0, q 1, funext fun a => by
    match a with
    | ⟨0, _⟩ => rfl
    | ⟨1, _⟩ => rfl⟩
  refine (outv_apply m H c i d).trans ?_
  refine Eq.trans ?_ (res_apply (xs m c) (ws m c) (bs m c) Hc i d).symm
  rw [tot_eq m c Hc, tot_eq m c Hc, tot_eq m c Hc]
  choose f hf using fun j => hx j d
  obtain ⟨w, ew⟩ := hw d
  have f0 : ∀ u : Fin 128 → EReal, feat u (⟨d.val, by omega⟩ : Fin 384) = u d := fun u => by
    unfold feat
    rw [dif_pos d.isLt]
  have f1 : ∀ u : Fin 128 → EReal, feat u (⟨128 + d.val, by omega⟩ : Fin 384) = u d * u d := fun u => by
    unfold feat
    rw [dif_neg (by show ¬ 128 + d.val < 128; omega), dif_pos (show 128 + d.val < 256 by omega)]
    have e : (⟨128 + d.val - 128, by omega⟩ : Fin 128) = d := Fin.ext (Nat.add_sub_cancel_left _ _)
    exact congrArg (fun t => u t * u t) e
  have f2 : ∀ u : Fin 128 → EReal, feat u (256 : Fin 384) = 1 := fun u => rfl
  rw [ew, hf i]
  refine Maths.agree (fun j : Fin 320000 => ids m c (ix1 j) = ids m c (ix1 i)) (cnt (ids m c) i) rfl
    (Finset.card_ne_zero.2 ⟨i, Finset.mem_filter.2 ⟨Finset.mem_univ _, rfl⟩⟩) f (f i) w (bs m c (ix1 d)) _ _ _ (mean (xs m c) (ids m c) i d) _ ?_ ?_ ?_ ?_ ?_
  · exact Finset.sum_congr rfl fun j _ => by rw [f0, hf j]
  · exact Finset.sum_congr rfl fun j _ => by rw [f1, hf j]
  · exact Finset.sum_congr rfl fun j _ => by rw [f2]
  · unfold mean total
    simp only [f0]
  · unfold total
    refine Finset.sum_congr rfl fun j _ => ?_
    by_cases h : ids m c (ix1 j) = ids m c (ix1 i)
    · rw [if_pos h, if_pos h]
      beta_reduce
      rw [mean_same _ _ i j d h, hf j]
    · rw [if_neg h, if_neg h]

/-- The idealized kernel and the idealized reference compute the same array. -/
theorem algebraic : Cert.algebraic_KernelIdeal_ReferenceIdeal_pre_sorted_finite_rows := by
  intro m g m' g' h ha
  have hp := fun c => sorted_finite_holds _ _ _ _ (h c)
  have H : Ordered (ids m 0) := (hp 0).1
  refine ⟨fun c => outv m (fits m H) c, ?_, ?_⟩
  · exact (θ_run _ _ _).mono (fun r q c => ⟨(q.1 c).2.2.2.2, (q.1 c).1, (q.1 c).2.1, (q.1 c).2.2.1, (q.1 c).2.2.2.1⟩) (Run.run m (fits m H) g)
  · refine (θ_run _ _ _).mono (fun r q c => ⟨?_, (q c).2⟩) (Cert.ReferenceIdeal.Value.run m' g')
    refine (q c).1.trans ((res_eq m' c).trans ?_)
    rw [(ha c).1, (ha c).2.1, (ha c).2.2.1, (ha c).2.2.2]
    exact (outv_eq m c H (hp c).2.1 (hp c).2.2).symm

end Cert.Proof.Value

end
-- ==== Proof.lean ====
/-
  The proof of the certificate's claim: the kernel and its idealization run without a fault from any memory whose index
  column is ordered, so does the reference from any memory, and the two idealized programs compute the same array where the
  rows and the weights are finite.
-/
module

public import proofs.«01_k».proof.Defs
public import proofs.«01_k».proof.Proof.Run
public import proofs.«01_k».proof.Proof.Host
public import proofs.«01_k».proof.Proof.Bits.Run
public import proofs.«01_k».proof.Proof.Bits.Host
public import proofs.«01_k».proof.Proof.Gen.ReferenceIdeal
public import proofs.«01_k».proof.Proof.Gen.ReferenceIdeal.Run
public import proofs.«01_k».proof.Proof.Algebra
public import Idealize.ShloMosaic.Lib.Quiescent

@[expose] public section

noncomputable section

namespace Cert.Proof

open Idealize.ShloMosaic Idealize.SL.Sem

/-- The kernel runs to the end, its arguments unchanged. -/
theorem frame_kernel : Cert.quiescent_Kernel := by
  intro m g h
  have H := Cert.Kernel.Run.fits m (sorted_ordered _ _ _ _ fun j => congrFun (h 0) j)
  exact (θ_run _ _ _).mono (fun r q => ⟨fun c => ⟨(q.1 c).1, (q.1 c).2.1, (q.1 c).2.2.1, (q.1 c).2.2.2.1⟩, q.2⟩) (Cert.Kernel.Run.run m H g)

/-- The idealized kernel runs to the end, its arguments unchanged. -/
theorem frame_ideal : Cert.quiescent_KernelIdeal := by
  intro m g h
  have H := Cert.KernelIdeal.Run.fits m (sorted_ordered _ _ _ _ fun j => congrFun (h 0) j)
  exact (θ_run _ _ _).mono (fun r q => ⟨fun c => ⟨(q.1 c).1, (q.1 c).2.1, (q.1 c).2.2.1, (q.1 c).2.2.2.1⟩, q.2⟩) (Cert.KernelIdeal.Run.run m H g)

/-- The reference runs to the end, its arguments unchanged. -/
theorem frame_reference : Cert.quiescent_ReferenceIdeal := by
  intro m g _
  exact (θ_run _ _ _).mono (fun r q => ⟨fun c => (q c).2, sem_eq_zero_of_no_sems (by decide) _⟩) (Cert.ReferenceIdeal.Value.run m g)

/-- The idealized kernel runs to the end where the rows and the weights are finite too. -/
theorem frame_ideal_finite : Cert.quiescent_KernelIdeal_pre_sorted_finite_rows := by
  intro m g h
  have H := Cert.KernelIdeal.Run.fits m (sorted_finite_holds _ _ _ _ (h 0)).1
  exact (θ_run _ _ _).mono (fun r q => ⟨fun c => ⟨(q.1 c).1, (q.1 c).2.1, (q.1 c).2.2.1, (q.1 c).2.2.2.1⟩, q.2⟩) (Cert.KernelIdeal.Run.run m H g)

/-- The reference runs to the end where the rows and the weights are finite too. -/
theorem frame_reference_finite : Cert.quiescent_ReferenceIdeal_pre_sorted_finite_rows := by
  intro m g _
  exact (θ_run _ _ _).mono (fun r q => ⟨fun c => (q c).2, sem_eq_zero_of_no_sems (by decide) _⟩) (Cert.ReferenceIdeal.Value.run m g)

/-- Everything claimed. -/
theorem claim : Cert.Claim :=
  ⟨Cert.Kernel.Gen.facts, Cert.KernelIdeal.Gen.facts, Cert.ReferenceIdeal.Gen.facts, sorted_facts, sorted_finite_facts,
    frame_kernel, frame_ideal, frame_ideal_finite, frame_reference, frame_reference_finite, trivial, Value.algebraic⟩

end Cert.Proof

end
